-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_frozen_tables [hPre_frozen_tables : Cert.Pre_frozen_tables.Facts] (m : (ℓ : Loc Cert.KernelIdeal.nD Cert.KernelIdeal.τ Cert.KernelIdeal.sig) → Buf (Elt Ideal) ℓ) : Prop :=
  ∀ c : Dev Cert.KernelIdeal.nD,
    (Cert.Pre_frozen_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_frozen_tables [hPre_frozen_tables : Cert.Pre_frozen_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_frozen_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_frozen_tables [hKernelIdeal : Cert.KernelIdeal.Facts] [hPre_frozen_tables : Cert.Pre_frozen_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_frozen_tables m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_frozen_tables [hReferenceIdeal : Cert.ReferenceIdeal.Facts] [hPre_frozen_tables : Cert.Pre_frozen_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_frozen_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_frozen_tables [hKernelIdeal : Cert.KernelIdeal.Facts] [hReferenceIdeal : Cert.ReferenceIdeal.Facts] [hPre_frozen_tables : Cert.Pre_frozen_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_frozen_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_v70) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_frozen_tables : Cert.Pre_frozen_tables.Facts),
    quiescent_Kernel (hKernel := hKernel)
    ∧ quiescent_KernelIdeal (hKernelIdeal := hKernelIdeal)
    ∧ quiescent_KernelIdeal_pre_frozen_tables (hKernelIdeal := hKernelIdeal) (hPre_frozen_tables := hPre_frozen_tables)
    ∧ quiescent_ReferenceIdeal (hReferenceIdeal := hReferenceIdeal)
    ∧ quiescent_ReferenceIdeal_pre_frozen_tables (hReferenceIdeal := hReferenceIdeal) (hPre_frozen_tables := hPre_frozen_tables)
    ∧ preserves_Kernel_KernelIdeal
    ∧ algebraic_KernelIdeal_ReferenceIdeal_pre_frozen_tables (hKernelIdeal := hKernelIdeal) (hReferenceIdeal := hReferenceIdeal) (hPre_frozen_tables := hPre_frozen_tables)
-- ==== Pre_frozen_tables.lean ====
abbrev S16x4096x2048 : Shape := ⟨3, ![16, 4096, 2048]⟩
abbrev S16x4096 : Shape := ⟨2, ![16, 4096]⟩
abbrev S50000 : Shape := ⟨1, ![50000]⟩
abbrev S_ : Shape := ⟨0, ![]⟩

class Facts : Prop where
  bcast_S_S50000 : S_.BroadcastsInDim S50000 (![] : Fin 0 → Fin S50000.rank)
  reducesTo_S50000_S_d0 : S50000.ReducesTo [0] S_
  h_S_ : 0 < S_.numel

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S50000 32) (arg1 : IVec S_ 32) : IVec S50000 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S50000 32 := broadcastInDim S50000 ![] bcast_S_S50000 v2
  let v4 : IVec S50000 32 := Host.remsi arg0 v3
  let c_1 : IVec S_ 32 := constantI S_ 32 0#32
  let v5 : IVec S50000 32 := broadcastInDim S50000 ![] bcast_S_S50000 c_1
  let v6 : IVec S50000 1 := cmpi .ne v4 v5
  let c_2 : IVec S_ 32 := constantI S_ 32 0#32
  let v7 : IVec S50000 32 := broadcastInDim S50000 ![] bcast_S_S50000 c_2
  let v8 : IVec S50000 1 := cmpi .slt v4 v7
  let c_3 : IVec S_ 32 := constantI S_ 32 0#32
  let v9 : IVec S_ 1 := cmpi .slt v2 c_3
  let v10 : IVec S50000 1 := broadcastInDim S50000 ![] bcast_S_S50000 v9
  let v11 : IVec S50000 1 := cmpi .ne v8 v10
  let v12 : IVec S50000 1 := andi v11 v6
  let v13 : IVec S50000 32 := broadcastInDim S50000 ![] bcast_S_S50000 v2
  let v14 : IVec S50000 32 := addi v4 v13
  let v15 : IVec S50000 32 := select v12 v14 v4
  v15

def fn_where_0 {F : FTy → Type} [FloatOps F] (arg0 : IVec S50000 1) (arg1 : IVec S50000 32) (arg2 : IVec S_ 32) : IVec S50000 32 :=
  let v0 : IVec S_ 32 := id arg2
  let v1 : IVec S50000 32 := broadcastInDim S50000 ![] bcast_S_S50000 v0
  let v2 : IVec S50000 32 := select arg0 arg1 v1
  v2

def fn {F : FTy → Type} [FloatOps F] (main_arg0 : FVec F S16x4096x2048 .f32) (main_arg1 : IVec S16x4096 32) (main_arg2 : FVec F S16x4096 .f32) (main_arg3 : IVec S50000 32) (main_arg4 : IVec S50000 1) : IVec S_ 1 :=
  let main_v0 : IVec S50000 32 := iotaInDim S50000 32 0
  let main_c : IVec S_ 32 := constantI S_ 32 1000#32
  let main_v1 : IVec S50000 32 := broadcastInDim S50000 ![] bcast_S_S50000 main_c
  let main_v2 : IVec S50000 1 := cmpi .slt main_v0 main_v1
  let main_c_0 : IVec S_ 32 := constantI S_ 32 10#32
  let main_v3 : IVec S50000 32 := fn_remainder (F := F) main_v0 main_c_0
  let main_c_1 : IVec S_ 32 := constantI S_ 32 4294967295#32
  let main_v4 : IVec S50000 32 := fn_where_0 (F := F) main_v2 main_v3 main_c_1
  let main_c_2 : IVec S_ 32 := constantI S_ 32 1000#32
  let main_v5 : IVec S50000 32 := broadcastInDim S50000 ![] bcast_S_S50000 main_c_2
  let main_v6 : IVec S50000 1 := cmpi .sge main_v0 main_v5
  let main_c_3 : IVec S_ 32 := constantI S_ 32 1005#32
  let main_v7 : IVec S50000 32 := broadcastInDim S50000 ![] bcast_S_S50000 main_c_3
  let main_v8 : IVec S50000 1 := cmpi .slt main_v0 main_v7
  let main_v9 : IVec S50000 1 := andi main_v6 main_v8
  let main_v10 : IVec S50000 1 := cmpi .eq main_arg3 main_v4
  let main_c_4 : IVec S_ 1 := constantI S_ 1 1#1
  let main_v11 : IVec S_ 1 := (fun x v => Host.reduce IntOp.andi x v reducesTo_S50000_S_d0 h_S_) main_v10 main_c_4
  let main_v12 : IVec S50000 1 := cmpi .eq main_arg4 main_v9
  let main_c_5 : IVec S_ 1 := constantI S_ 1 1#1
  let main_v13 : IVec S_ 1 := (fun x v => Host.reduce IntOp.andi x v reducesTo_S50000_S_d0 h_S_) main_v12 main_c_5
  let main_v14 : IVec S_ 1 := andi main_v11 main_v13
  main_v14
-- ==== Kernel.lean ====
abbrev S16x4096x2048 : Shape := ⟨3, ![16, 4096, 2048]⟩
abbrev S16x4096 : Shape := ⟨2, ![16, 4096]⟩
abbrev S50000 : Shape := ⟨1, ![50000]⟩
abbrev S16x640 : Shape := ⟨2, ![16, 640]⟩
abbrev S16 : Shape := ⟨1, ![16]⟩
abbrev S16x1 : Shape := ⟨2, ![16, 1]⟩
abbrev S16x64x640 : Shape := ⟨3, ![16, 64, 640]⟩
abbrev S1x64x640 : Shape := ⟨3, ![1, 64, 640]⟩
abbrev S1x640 : Shape := ⟨2, ![1, 640]⟩
abbrev S1x1x640 : Shape := ⟨3, ![1, 1, 640]⟩
abbrev S16x4096x10 : Shape := ⟨3, ![16, 4096, 10]⟩

abbrev nBuf : Space → Nat
  | .hbm => 15
  | .vmem => 13
  | .smem => 0
  | _ => 0

abbrev bufTy : (tb : Table) → Fin (tcTables nBuf tb) → BufTy
  | .hbm, ⟨0, _⟩ => ⟨S16x4096x2048, .f32⟩
  | .hbm, ⟨1, _⟩ => ⟨S16x4096, .i32⟩
  | .hbm, ⟨2, _⟩ => ⟨S16x4096, .f32⟩
  | .hbm, ⟨3, _⟩ => ⟨S50000, .i32⟩
  | .hbm, ⟨4, _⟩ => ⟨S50000, .i1⟩
  | .hbm, ⟨5, _⟩ => ⟨S16x640, .f32⟩
  | .hbm, ⟨6, _⟩ => ⟨S16x640, .f32⟩
  | .hbm, ⟨7, _⟩ => ⟨S16x64x640, .f32⟩
  | .hbm, ⟨8, _⟩ => ⟨S16x64x640, .f32⟩
  | .hbm, ⟨9, _⟩ => ⟨S16x64x640, .f32⟩
  | .hbm, ⟨10, _⟩ => ⟨S16x64x640, .f32⟩
  | .hbm, ⟨11, _⟩ => ⟨S16x4096x10, .f32⟩
  | .hbm, ⟨12, _⟩ => ⟨S16x4096x10, .f32⟩
  | .hbm, ⟨13, _⟩ => ⟨S16x4096x10, .f32⟩
  | .hbm, ⟨14, _⟩ => ⟨S16x4096x10, .f32⟩
  | .local _ .vmem, ⟨0, _⟩ => ⟨S16x4096, .i32⟩
  | .local _ .vmem, ⟨1, _⟩ => ⟨S16x640, .f32⟩
  | .local _ .vmem, ⟨2, _⟩ => ⟨S16x640, .f32⟩
  | .local _ .vmem, ⟨3, _⟩ => ⟨S16x640, .f32⟩
  | .local _ .vmem, ⟨4, _⟩ => ⟨S16x640, .f32⟩
  | .local _ .vmem, ⟨5, _⟩ => ⟨S1x64x640, .f32⟩
  | .local _ .vmem, ⟨6, _⟩ => ⟨S1x64x640, .f32⟩
  | .local _ .vmem, ⟨7, _⟩ => ⟨S1x64x640, .f32⟩
  | .local _ .vmem, ⟨8, _⟩ => ⟨S1x64x640, .f32⟩
  | .local _ .vmem, ⟨9, _⟩ => ⟨S1x64x640, .f32⟩
  | .local _ .vmem, ⟨10, _⟩ => ⟨S1x64x640, .f32⟩
  | .local _ .vmem, ⟨11, _⟩ => ⟨S1x64x640, .f32⟩
  | .local _ .vmem, ⟨12, _⟩ => ⟨S1x64x640, .f32⟩
  | _, _ => ⟨S16x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem2_1 : DmaSem sig := 6
abbrev cc1_sem3_0 : DmaSem sig := 7
abbrev cc1_sem3_1 : DmaSem sig := 8
abbrev cc1_sem4_0 : DmaSem sig := 9
abbrev cc1_sem4_1 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := .none

abbrev stage0_0 : Fin 1 → Memref sig .tc .vmem S16x4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![16], ![false]⟩

def k1_off1 (i : grid1.Coords) : Fin 2 → Nat :=
  let arg0 : BitVec 32 := BitVec.ofNat 32 (i 0).val
  let v0 : Index := Scalar.indexCast arg0
  let c0 : Index := 0#32
  ![v0.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S16x640 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S16x640 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x64x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x64x640 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x64x640 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x64x640 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S16x4096x2048 : Shape := ⟨3, ![16, 4096, 2048]⟩
abbrev S16x4096 : Shape := ⟨2, ![16, 4096]⟩
abbrev S50000 : Shape := ⟨1, ![50000]⟩
abbrev S_ : Shape := ⟨0, ![]⟩
abbrev S16x4096x1 : Shape := ⟨3, ![16, 4096, 1]⟩
abbrev S16 : Shape := ⟨1, ![16]⟩
abbrev S4096 : Shape := ⟨1, ![4096]⟩
abbrev S1x4096 : Shape := ⟨2, ![1, 4096]⟩
abbrev S10 : Shape := ⟨1, ![10]⟩
abbrev S1x10 : Shape := ⟨2, ![1, 10]⟩
abbrev S16x10 : Shape := ⟨2, ![16, 10]⟩
abbrev S16x1 : Shape := ⟨2, ![16, 1]⟩
abbrev S16x10x1 : Shape := ⟨3, ![16, 10, 1]⟩
abbrev S1 : Shape := ⟨1, ![1]⟩
abbrev S1x1x1 : Shape := ⟨3, ![1, 1, 1]⟩
abbrev S16x1x10 : Shape := ⟨3, ![16, 1, 10]⟩
abbrev S16x4096x10 : Shape := ⟨3, ![16, 4096, 10]⟩

abbrev nBuf : Space → Nat
  | .hbm => 161
  | .vmem => 0
  | .smem => 0
  | _ => 0

abbrev hbmTy0_0 (i : Nat) : BufTy := match i % 128 with
  | 0 => ⟨S16x4096x2048, .f32⟩
  | 1 => ⟨S16x4096, .i32⟩
  | 2 => ⟨S16x4096, .f32⟩
  | 3 => ⟨S50000, .i32⟩
  | 4 => ⟨S50000, .i1⟩
  | 5 => ⟨S_, .i32⟩
  | 6 => ⟨S_, .i32⟩
  | 7 => ⟨S_, .i32⟩
  | 8 => ⟨S16x4096, .i32⟩
  | 9 => ⟨S16x4096, .i32⟩
  | 10 => ⟨S_, .i32⟩
  | 11 => ⟨S16x4096, .i32⟩
  | 12 => ⟨S16x4096, .i32⟩
  | 13 => ⟨S_, .i32⟩
  | 14 => ⟨S16x4096, .i32⟩
  | 15 => ⟨S16x4096, .i1⟩
  | 16 => ⟨S_, .i32⟩
  | 17 => ⟨S16x4096, .i32⟩
  | 18 => ⟨S16x4096, .i32⟩
  | 19 => ⟨S16x4096, .i32⟩
  | 20 => ⟨S16x4096x1, .i32⟩
  | 21 => ⟨S16x4096, .i1⟩
  | 22 => ⟨S16x4096, .i32⟩
  | 23 => ⟨S16x4096, .i32⟩
  | 24 => ⟨S_, .i32⟩
  | 25 => ⟨S_, .i32⟩
  | 26 => ⟨S16, .i32⟩
  | 27 => ⟨S16, .i32⟩
  | 28 => ⟨S_, .i32⟩
  | 29 => ⟨S16x4096, .i32⟩
  | 30 => ⟨S16x4096, .i1⟩
  | 31 => ⟨S_, .i32⟩
  | 32 => ⟨S16x4096, .i32⟩
  | 33 => ⟨S16x4096, .i32⟩
  | 34 => ⟨S16x4096, .i32⟩
  | 35 => ⟨S16x4096x1, .i32⟩
  | 36 => ⟨S16x4096, .i32⟩
  | 37 => ⟨S_, .i32⟩
  | 38 => ⟨S16x4096, .i32⟩
  | 39 => ⟨S16x4096, .i1⟩
  | 40 => ⟨S4096, .i32⟩
  | 41 => ⟨S1x4096, .i32⟩
  | 42 => ⟨S16x4096, .i32⟩
  | 43 => ⟨S10, .i32⟩
  | 44 => ⟨S1x10, .i32⟩
  | 45 => ⟨S16x10, .i32⟩
  | 46 => ⟨S16x4096, .i1⟩
  | 47 => ⟨S16x1, .i32⟩
  | 48 => ⟨S16x4096, .i32⟩
  | 49 => ⟨S16x4096, .i1⟩
  | 50 => ⟨S16x4096, .i1⟩
  | 51 => ⟨S_, .i32⟩
  | 52 => ⟨S16x4096, .i32⟩
  | 53 => ⟨S16x4096, .i32⟩
  | 54 => ⟨S_, .i32⟩
  | 55 => ⟨S_, .i32⟩
  | 56 => ⟨S16x4096, .i32⟩
  | 57 => ⟨S16x4096, .i32⟩
  | 58 => ⟨S_, .i32⟩
  | 59 => ⟨S16, .i32⟩
  | 60 => ⟨S16x1, .i32⟩
  | 61 => ⟨S_, .i32⟩
  | 62 => ⟨S16x1, .i32⟩
  | 63 => ⟨S16x1, .i32⟩
  | 64 => ⟨S16x10, .i32⟩
  | 65 => ⟨S16x10, .i32⟩
  | 66 => ⟨S16x1, .i32⟩
  | 67 => ⟨S16x10, .i32⟩
  | 68 => ⟨S16x10, .i1⟩
  | 69 => ⟨S_, .i32⟩
  | 70 => ⟨S_, .i32⟩
  | 71 => ⟨S_, .i32⟩
  | 72 => ⟨S16x10, .i32⟩
  | 73 => ⟨S16x10, .i32⟩
  | 74 => ⟨S_, .i32⟩
  | 75 => ⟨S16x10, .i32⟩
  | 76 => ⟨S16x10, .i32⟩
  | 77 => ⟨S_, .i32⟩
  | 78 => ⟨S16x10, .i32⟩
  | 79 => ⟨S16x10, .i1⟩
  | 80 => ⟨S_, .i32⟩
  | 81 => ⟨S16x10, .i32⟩
  | 82 => ⟨S16x10, .i32⟩
  | 83 => ⟨S16x10, .i32⟩
  | 84 => ⟨S16x10x1, .i32⟩
  | 85 => ⟨S1, .i32⟩
  | 86 => ⟨S_, .i32⟩
  | 87 => ⟨S16x10x1, .i32⟩
  | 88 => ⟨S16x10x1, .i1⟩
  | 89 => ⟨S1x1x1, .i32⟩
  | 90 => ⟨S16x10x1, .i32⟩
  | 91 => ⟨S16x10x1, .i1⟩
  | 92 => ⟨S16x10x1, .i1⟩
  | 93 => ⟨S_, .i1⟩
  | 94 => ⟨S16x10, .i1⟩
  | 95 => ⟨S16x10, .i32⟩
  | 96 => ⟨S_, .i32⟩
  | 97 => ⟨S16x10, .i32⟩
  | 98 => ⟨S16x10, .i32⟩
  | 99 => ⟨S_, .i32⟩
  | 100 => ⟨S16x10, .i32⟩
  | 101 => ⟨S16x10, .i32⟩
  | 102 => ⟨S16x10, .f32⟩
  | 103 => ⟨S16x4096, .i1⟩
  | 104 => ⟨S16x1, .i32⟩
  | 105 => ⟨S16x4096, .i32⟩
  | 106 => ⟨S16x4096, .i1⟩
  | 107 => ⟨S16x4096, .i1⟩
  | 108 => ⟨S_, .i32⟩
  | 109 => ⟨S_, .i32⟩
  | 110 => ⟨S16x4096, .i32⟩
  | 111 => ⟨S16x4096, .i32⟩
  | 112 => ⟨S_, .i32⟩
  | 113 => ⟨S16, .i32⟩
  | 114 => ⟨S_, .i32⟩
  | 115 => ⟨S16, .i32⟩
  | 116 => ⟨S16, .i32⟩
  | 117 => ⟨S16x1, .i32⟩
  | 118 => ⟨S16x10, .i32⟩
  | 119 => ⟨S16x10, .i32⟩
  | 120 => ⟨S16x1, .i32⟩
  | 121 => ⟨S16x10, .i32⟩
  | 122 => ⟨S16x10, .i1⟩
  | 123 => ⟨S_, .i32⟩
  | 124 => ⟨S_, .i32⟩
  | 125 => ⟨S_, .i32⟩
  | 126 => ⟨S16x10, .i32⟩
  | 127 => ⟨S16x10, .i32⟩
  | _ => ⟨S16x4096x2048, .f32⟩

abbrev hbmTy0_1 (i : Nat) : BufTy := match i % 128 with
  | 0 => ⟨S_, .i32⟩
  | 1 => ⟨S16x10, .i32⟩
  | 2 => ⟨S16x10, .i32⟩
  | 3 => ⟨S_, .i32⟩
  | 4 => ⟨S16x10, .i32⟩
  | 5 => ⟨S16x10, .i1⟩
  | 6 => ⟨S_, .i32⟩
  | 7 => ⟨S16x10, .i32⟩
  | 8 => ⟨S16x10, .i32⟩
  | 9 => ⟨S16x10, .i32⟩
  | 10 => ⟨S16x10x1, .i32⟩
  | 11 => ⟨S1, .i32⟩
  | 12 => ⟨S_, .i32⟩
  | 13 => ⟨S16x10x1, .i32⟩
  | 14 => ⟨S16x10x1, .i1⟩
  | 15 => ⟨S1x1x1, .i32⟩
  | 16 => ⟨S16x10x1, .i32⟩
  | 17 => ⟨S16x10x1, .i1⟩
  | 18 => ⟨S16x10x1, .i1⟩
  | 19 => ⟨S_, .i1⟩
  | 20 => ⟨S16x10, .i1⟩
  | 21 => ⟨S16x10, .i32⟩
  | 22 => ⟨S_, .i32⟩
  | 23 => ⟨S16x10, .i32⟩
  | 24 => ⟨S16x10, .i32⟩
  | 25 => ⟨S_, .i32⟩
  | 26 => ⟨S16x10, .i32⟩
  | 27 => ⟨S16x10, .i32⟩
  | 28 => ⟨S16x10, .f32⟩
  | 29 => ⟨S16x1x10, .f32⟩
  | 30 => ⟨S16x4096x10, .f32⟩
  | 31 => ⟨S16x1x10, .f32⟩
  | 32 => ⟨S16x4096x10, .f32⟩
  | _ => ⟨S16x4096x2048, .f32⟩

abbrev hbmTy (i : Nat) : BufTy := match i / 128 with
  | 0 => hbmTy0_0 i
  | 1 => hbmTy0_1 i
  | _ => ⟨S16x4096x2048, .f32⟩

abbrev bufTy : (tb : Table) → Fin (tcTables nBuf tb) → BufTy
  | .hbm, ⟨i, _⟩ => hbmTy i
  | _, _ => ⟨S16x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_c_1 : Ref sig .tc := ⟨.hbm, 13, rfl⟩
abbrev main_v1 : Ref sig .tc := ⟨.hbm, 14, rfl⟩
abbrev main_v2 : Ref sig .tc := ⟨.hbm, 15, rfl⟩
abbrev main_c_2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_v0 : Ref sig .tc := ⟨.hbm, 23, rfl⟩
abbrev main_call1_c : Ref sig .tc := ⟨.hbm, 24, rfl⟩
abbrev main_call1_c_0 : Ref sig .tc := ⟨.hbm, 25, rfl⟩
abbrev main_call1_v1_0 : Ref sig .tc := ⟨.hbm, 26, rfl⟩
abbrev main_v9 : Ref sig .tc := ⟨.hbm, 27, rfl⟩
abbrev main_c_3 : Ref sig .tc := ⟨.hbm, 28, rfl⟩
abbrev main_v10 : Ref sig .tc := ⟨.hbm, 29, rfl⟩
abbrev main_v11 : Ref sig .tc := ⟨.hbm, 30, rfl⟩
abbrev main_c_4 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_call2_v0 : Ref sig .tc := ⟨.hbm, 55, rfl⟩
abbrev main_call2_v1 : Ref sig .tc := ⟨.hbm, 56, rfl⟩
abbrev main_v32 : Ref sig .tc := ⟨.hbm, 57, rfl⟩
abbrev main_c_8 : Ref sig .tc := ⟨.hbm, 58, rfl⟩
abbrev main_v33 : Ref sig .tc := ⟨.hbm, 59, rfl⟩
abbrev main_v34 : Ref sig .tc := ⟨.hbm, 60, rfl⟩
abbrev main_c_9 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_10 : Ref sig .tc := ⟨.hbm, 69, rfl⟩
abbrev main_c_11 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_v42 : Ref sig .tc := ⟨.hbm, 76, rfl⟩
abbrev main_call4_c : Ref sig .tc := ⟨.hbm, 77, rfl⟩
abbrev main_call4_v0 : Ref sig .tc := ⟨.hbm, 78, rfl⟩
abbrev main_call4_v1 : Ref sig .tc := ⟨.hbm, 79, rfl⟩
abbrev main_call4_c_0 : Ref sig .tc := ⟨.hbm, 80, rfl⟩
abbrev main_call4_v2 : Ref sig .tc := ⟨.hbm, 81, rfl⟩
abbrev main_call4_v3 : Ref sig .tc := ⟨.hbm, 82, rfl⟩
abbrev main_call4_v4 : Ref sig .tc := ⟨.hbm, 83, rfl⟩
abbrev main_call4_v5 : Ref sig .tc := ⟨.hbm, 84, rfl⟩
abbrev main_call4_c_1 : Ref sig .tc := ⟨.hbm, 85, rfl⟩
abbrev main_call4_c_2 : Ref sig .tc := ⟨.hbm, 86, rfl⟩
abbrev main_call4_v6 : Ref sig .tc := ⟨.hbm, 87, rfl⟩
abbrev main_call4_v7 : Ref sig .tc := ⟨.hbm, 88, rfl⟩
abbrev main_call4_v8 : Ref sig .tc := ⟨.hbm, 89, rfl⟩
abbrev main_call4_v9 : Ref sig .tc := ⟨.hbm, 90, rfl⟩
abbrev main_call4_v10 : Ref sig .tc := ⟨.hbm, 91, rfl⟩
abbrev main_call4_v11 : Ref sig .tc := ⟨.hbm, 92, rfl⟩
abbrev main_call4_c_3 : Ref sig .tc := ⟨.hbm, 93, rfl⟩
abbrev main_call4_v12 : Ref sig .tc := ⟨.hbm, 94, rfl⟩
abbrev main_call4_v13 : Ref sig .tc := ⟨.hbm, 95, rfl⟩
abbrev main_call4_c_4 : Ref sig .tc := ⟨.hbm, 96, rfl⟩
abbrev main_call4_v14 : Ref sig .tc := ⟨.hbm, 97, rfl⟩
abbrev main_v43 : Ref sig .tc := ⟨.hbm, 98, rfl⟩
abbrev main_c_12 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_c_13 : Ref sig .tc := ⟨.hbm, 108, rfl⟩
abbrev main_call6_v0 : Ref sig .tc := ⟨.hbm, 109, rfl⟩
abbrev main_call6_v1 : Ref sig .tc := ⟨.hbm, 110, rfl⟩
abbrev main_v52 : Ref sig .tc := ⟨.hbm, 111, rfl⟩
abbrev main_c_14 : Ref sig .tc := ⟨.hbm, 112, rfl⟩
abbrev main_v53 : Ref sig .tc := ⟨.hbm, 113, rfl⟩
abbrev main_c_15 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_c_16 : Ref sig .tc := ⟨.hbm, 123, rfl⟩
abbrev main_c_17 : Ref sig .tc := ⟨.hbm, 124, rfl⟩
abbrev main_call7_v0 : Ref sig .tc := ⟨.hbm, 125, rfl⟩
abbrev main_call7_v1 : Ref sig .tc := ⟨.hbm, 126, rfl⟩
abbrev main_call7_v2 : Ref sig .tc := ⟨.hbm, 127, rfl⟩
abbrev main_call7_v3 : Ref sig .tc := ⟨.hbm, 128, rfl⟩
abbrev main_call7_v4 : Ref sig .tc := ⟨.hbm, 129, rfl⟩
abbrev main_v62 : Ref sig .tc := ⟨.hbm, 130, rfl⟩
abbrev main_call8_c : Ref sig .tc := ⟨.hbm, 131, rfl⟩
abbrev main_call8_v0 : Ref sig .tc := ⟨.hbm, 132, rfl⟩
abbrev main_call8_v1 : Ref sig .tc := ⟨.hbm, 133, rfl⟩
abbrev main_call8_c_0 : Ref sig .tc := ⟨.hbm, 134, rfl⟩
abbrev main_call8_v2 : Ref sig .tc := ⟨.hbm, 135, rfl⟩
abbrev main_call8_v3 : Ref sig .tc := ⟨.hbm, 136, rfl⟩
abbrev main_call8_v4 : Ref sig .tc := ⟨.hbm, 137, rfl⟩
abbrev main_call8_v5 : Ref sig .tc := ⟨.hbm, 138, rfl⟩
abbrev main_call8_c_1 : Ref sig .tc := ⟨.hbm, 139, rfl⟩
abbrev main_call8_c_2 : Ref sig .tc := ⟨.hbm, 140, rfl⟩
abbrev main_call8_v6 : Ref sig .tc := ⟨.hbm, 141, rfl⟩
abbrev main_call8_v7 : Ref sig .tc := ⟨.hbm, 142, rfl⟩
abbrev main_call8_v8 : Ref sig .tc := ⟨.hbm, 143, rfl⟩
abbrev main_call8_v9 : Ref sig .tc := ⟨.hbm, 144, rfl⟩
abbrev main_call8_v10 : Ref sig .tc := ⟨.hbm, 145, rfl⟩
abbrev main_call8_v11 : Ref sig .tc := ⟨.hbm, 146, rfl⟩
abbrev main_call8_c_3 : Ref sig .tc := ⟨.hbm, 147, rfl⟩
abbrev main_call8_v12 : Ref sig .tc := ⟨.hbm, 148, rfl⟩
abbrev main_call8_v13 : Ref sig .tc := ⟨.hbm, 149, rfl⟩
abbrev main_call8_c_4 : Ref sig .tc := ⟨.hbm, 150, rfl⟩
abbrev main_call8_v14 : Ref sig .tc := ⟨.hbm, 151, rfl⟩
abbrev main_v63 : Ref sig .tc := ⟨.hbm, 152, rfl⟩
abbrev main_c_18 : Ref sig .tc := ⟨.hbm, 153, rfl⟩
abbrev main_v64 : Ref sig .tc := ⟨.hbm, 154, rfl⟩
abbrev main_v65 : Ref sig .tc := ⟨.hbm, 155, rfl⟩
abbrev main_v66 : Ref sig .tc := ⟨.hbm, 156, rfl⟩
abbrev main_v67 : Ref sig .tc := ⟨.hbm, 157, rfl⟩
abbrev main_v68 : Ref sig .tc := ⟨.hbm, 158, rfl⟩
abbrev main_v69 : Ref sig .tc := ⟨.hbm, 159, rfl⟩
abbrev main_v70 : Ref sig .tc := ⟨.hbm, 160, rfl⟩

abbrev nD : Nat := 1
abbrev τ : Topo := Topo.v7x

variable {F : FTy → Type} [FloatOps F]
-- ==== Proof.RefRun.lean ====
/-
  The reference's run. `ops` is the reference's @main as a list of its operations, a called function's operations in its call's
  place; `resA` and `resB` are its two results as terms of the arguments, put together from the stages named first: the clipped
  ids, the two table lookups, the position of the first operator, the ends of the two numbers, the digits taken from them.
  `run` states that every execution ends with the results at these terms, the arguments unchanged and every counter at zero.
-/
module

public import proofs.«01_k».proof.Proof.Gen.ReferenceIdeal
public import Idealize.ShloMosaic.Lib.StableHlo.Run
public import Idealize.ShloMosaic.Lib.StableHlo.RunRead
public import Idealize.ShloMosaic.Lib.Quiescent

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The ids held between 0 and 49999. -/
def refIds (x : IVec S16x4096 32) : IVec S16x4096 32 :=
  minsi (broadcastInDim S16x4096 ![] bcast_S_S16x4096 (constantI S_ 32 49999#32))
    (maxsi (broadcastInDim S16x4096 ![] bcast_S_S16x4096 (constantI S_ 32 0#32)) x)

/-- The rows a table is read at: a negative id counts from the table's end. -/
def refRows (i : IVec S16x4096 32) : IVec S16x4096x1 32 :=
  broadcastInDim S16x4096x1 ![0, 1] bcast_S16x4096_S16x4096x1_0_1
    (select (cmpi .slt i (broadcastInDim S16x4096 ![] bcast_S_S16x4096 (constantI S_ 32 0#32)))
      (addi i (broadcastInDim S16x4096 ![] bcast_S_S16x4096 (constantI S_ 32 50000#32))) i)

/-- The operator table read at the ids, as words. -/
def refIsOp (t : IVec S50000 1) (i : IVec S16x4096 32) : IVec S16x4096 32 :=
  extui 32 (Host.gather gather_S50000_S16x4096x1_S16x4096_n_0_n_n_0_2_1 t (refRows i)) natLt_1_32

/-- The digit table read at the ids. -/
def refDigit (t : IVec S50000 32) (i : IVec S16x4096 32) : IVec S16x4096 32 :=
  Host.gather gather_S50000_S16x4096x1_S16x4096_n_0_n_n_0_2_1 t (refRows i)

/-- The position of each row's first operator (0 when it has none). -/
def refOp (w : IVec S16x4096 32) : IVec S16 32 := fun j =>
  (Host.reduce2 reducer_argmax_i32_i32 w (iotaInDim S16x4096 32 1) (constantI S_ 32 2147483648#32) (constantI S_ 32 0#32)
    reducesTo_S16x4096_S16_d1 h_S_ j).2

/-- Which positions hold a digit. -/
def refIsDigit (d : IVec S16x4096 32) : IVec S16x4096 1 :=
  cmpi .sge d (broadcastInDim S16x4096 ![] bcast_S_S16x4096 (constantI S_ 32 0#32))

/-- Each position's number. -/
def refPos : IVec S16x4096 32 :=
  broadcastInDim S16x4096 ![0, 1] bcast_S1x4096_S16x4096_0_1 (broadcastInDim S1x4096 ![1] bcast_S4096_S1x4096_1 (iotaInDim S4096 32 0))

/-- Each digit's offset from its number's last digit. -/
def refOff : IVec S16x10 32 :=
  broadcastInDim S16x10 ![0, 1] bcast_S1x10_S16x10_0_1 (broadcastInDim S1x10 ![1] bcast_S10_S1x10_1 (iotaInDim S10 32 0))

/-- A value per row, at every position of the row. -/
def refWide (p : IVec S16 32) : IVec S16x4096 32 :=
  broadcastInDim S16x4096 ![0, 1] bcast_S16x1_S16x4096_0_1 (broadcastInDim S16x1 ![0] bcast_S16_S16x1_0 p)

/-- A value per row, at every digit of the row. -/
def refTen (p : IVec S16 32) : IVec S16x10 32 :=
  broadcastInDim S16x10 ![0, 1] bcast_S16x1_S16x10_0_1 (broadcastInDim S16x1 ![0] bcast_S16_S16x1_0 p)

/-- Where the first number starts: one past the last position before the operator that holds no digit. -/
def refStart (g : IVec S16x4096 1) (p : IVec S16 32) : IVec S16 32 :=
  Host.reduce IntOp.maxsi
    (select (andi (noti g) (cmpi .slt refPos (refWide p)))
      (addi refPos (broadcastInDim S16x4096 ![] bcast_S_S16x4096 (constantI S_ 32 1#32)))
      (broadcastInDim S16x4096 ![] bcast_S_S16x4096 (constantI S_ 32 0#32)))
    (constantI S_ 32 2147483648#32) reducesTo_S16x4096_S16_d1 h_S_

/-- Where the second number ends: one before the first position after the operator that holds no digit. -/
def refEnd (g : IVec S16x4096 1) (p : IVec S16 32) : IVec S16 32 :=
  subi (Host.reduce IntOp.minsi
    (select (andi (noti g) (cmpi .sgt refPos (refWide p))) refPos
      (broadcastInDim S16x4096 ![] bcast_S_S16x4096 (constantI S_ 32 4096#32)))
    (constantI S_ 32 2147483647#32) reducesTo_S16x4096_S16_d1 h_S_)
    (broadcastInDim S16 ![] bcast_S_S16 (constantI S_ 32 1#32))

/-- The positions of the first number's digits, the last digit first. -/
def refPosA (p : IVec S16 32) : IVec S16x10 32 :=
  subi (broadcastInDim S16x10 ![0, 1] bcast_S16x1_S16x10_0_1
    (subi (broadcastInDim S16x1 ![0] bcast_S16_S16x1_0 p) (broadcastInDim S16x1 ![] bcast_S_S16x1 (constantI S_ 32 1#32)))) refOff

/-- The positions of the second number's digits, the last digit first. -/
def refPosB (e : IVec S16 32) : IVec S16x10 32 := subi (refTen e) refOff

/-- The positions held between 0 and 4095. -/
def refClip (q : IVec S16x10 32) : IVec S16x10 32 :=
  minsi (broadcastInDim S16x10 ![] bcast_S_S16x10 (constantI S_ 32 4095#32))
    (maxsi (broadcastInDim S16x10 ![] bcast_S_S16x10 (constantI S_ 32 0#32)) q)

/-- The positions a row is read at: a negative one counts from the row's end. -/
def refAt (q : IVec S16x10 32) : IVec S16x10x1 32 :=
  shapeCast S16x10x1
    (select (cmpi .slt q (broadcastInDim S16x10 ![] bcast_S_S16x10 (constantI S_ 32 0#32)))
      (addi q (broadcastInDim S16x10 ![] bcast_S_S16x10 (constantI S_ 32 4096#32))) q) shapeCasts_S16x10_S16x10x1

/-- Which of the positions lie in the row. -/
def refIn (r : IVec S16x10x1 32) : IVec S16x10 1 :=
  Host.reduce IntOp.andi
    (andi (cmpi .sge r (broadcastInDim S16x10x1 ![] bcast_S_S16x10x1 (constantI S_ 32 0#32)))
      (cmpi .sle r (broadcastInDim S16x10x1 ![0, 1, 2] bcast_S1x1x1_S16x10x1_0_1_2
        (broadcastInDim S1x1x1 ![2] bcast_S1_S1x1x1_2 (constantI S1 32 4095#32)))))
    (constantI S_ 1 1#1) reducesTo_S16x10x1_S16x10_d2 h_S_

/-- A row read at the positions; the least word where the position is outside. -/
def refTake (d : IVec S16x4096 32) (q : IVec S16x10 32) : IVec S16x10 32 :=
  select (refIn (refAt q)) (Host.gather gather_S16x4096_S16x10x1_S16x10_n_1_0_0_1_2_11 d (refAt q))
    (broadcastInDim S16x10 ![] bcast_S_S16x10 (constantI S_ 32 2147483648#32))

/-- The digits at the positions, 0 where the flag is off. -/
def refPick (f : IVec S16x10 1) (d : IVec S16x4096 32) (q : IVec S16x10 32) : IVec S16x10 32 :=
  select f (refTake d (refClip q)) (broadcastInDim S16x10 ![] bcast_S_S16x10 (constantI S_ 32 0#32))

/-- The first number's digits. -/
def refDigitsA (d : IVec S16x4096 32) (p : IVec S16 32) : IVec S16x10 32 :=
  refPick (cmpi .sge (refPosA p) (refTen (refStart (refIsDigit d) p))) d (refPosA p)

/-- The second number's digits. -/
def refDigitsB (d : IVec S16x4096 32) (p : IVec S16 32) : IVec S16x10 32 :=
  refPick (cmpi .sgt (refPosB (refEnd (refIsDigit d) p)) (refTen p)) d (refPosB (refEnd (refIsDigit d) p))

/-- Ten values per row, at every position of the row. -/
def refSpread (v : FVec F S16x10 .f32) : FVec F S16x4096x10 .f32 :=
  broadcastInDim S16x4096x10 ![0, 1, 2] bcast_S16x1x10_S16x4096x10_0_1_2 (broadcastInDim S16x1x10 ![0, 2] bcast_S16x10_S16x1x10_0_2 v)

/-- The first result as a term of the ids and the two tables. -/
def resA (x : IVec S16x4096 32) (td : IVec S50000 32) (tp : IVec S50000 1) : FVec F S16x4096x10 .f32 :=
  refSpread (sitofp .f32 (refDigitsA (refDigit td (refIds x)) (refOp (refIsOp tp (refIds x)))))

/-- The second result as a term of the ids and the two tables. -/
def resB (x : IVec S16x4096 32) (td : IVec S50000 32) (tp : IVec S50000 1) : FVec F S16x4096x10 .f32 :=
  refSpread (sitofp .f32 (refDigitsB (refDigit td (refIds x)) (refOp (refIsOp tp (refIds x)))))

/-- The reference's 156 operations, in order (a called function's operations stand in its call's place, spelt `TRef.…`). -/
abbrev ops : List (HloOp τ sig (Elt F)) :=
  [ nullary main_c (constantI S_ 32 0#32),
    nullary main_c_0 (constantI S_ 32 49999#32),
    TRef.unary (TRef.of (T := ⟨S_, .i32⟩) main_c) (TRef.of (T := ⟨S_, .i32⟩) main_call0_v0) id,
    TRef.unary (TRef.of (T := ⟨S_, .i32⟩) main_call0_v0) (TRef.of (T := ⟨S16x4096, .i32⟩) main_call0_v1) (broadcastInDim S16x4096 ![] bcast_S_S16x4096),
    TRef.binary (TRef.of (T := ⟨S16x4096, .i32⟩) main_call0_v1) (TRef.of (T := ⟨S16x4096, .i32⟩) main_arg1) (TRef.of (T := ⟨S16x4096, .i32⟩) main_call0_v2) maxsi,
    TRef.unary (TRef.of (T := ⟨S_, .i32⟩) main_c_0) (TRef.of (T := ⟨S_, .i32⟩) main_call0_v3) id,
    TRef.unary (TRef.of (T := ⟨S_, .i32⟩) main_call0_v3) (TRef.of (T := ⟨S16x4096, .i32⟩) main_call0_v4) (broadcastInDim S16x4096 ![] bcast_S_S16x4096),
    TRef.binary (TRef.of (T := ⟨S16x4096, .i32⟩) main_call0_v4) (TRef.of (T := ⟨S16x4096, .i32⟩) main_call0_v2) (TRef.of (T := ⟨S16x4096, .i32⟩) main_v0) minsi,
    nullary main_c_1 (constantI S_ 32 0#32),
    unary main_c_1 main_v1 (broadcastInDim S16x4096 ![] bcast_S_S16x4096 : (⟨S_, .i32⟩ : BufTy).Contents (Elt F) → (⟨S16x4096, .i32⟩ : BufTy).Contents (Elt F)),
    binary main_v0 main_v1 main_v2 (cmpi .slt : (⟨S16x4096, .i32⟩ : BufTy).Contents (Elt F) → (⟨S16x4096, .i32⟩ : BufTy).Contents (Elt F) → (⟨S16x4096, .i1⟩ : BufTy).Contents (Elt F)),
    nullary main_c_2 (constantI S_ 32 50000#32),
    unary main_c_2 main_v3 (broadcastInDim S16x4096 ![] bcast_S_S16x4096 : (⟨S_, .i32⟩ : BufTy).Contents (Elt F) → (⟨S16x4096, .i32⟩ : BufTy).Contents (Elt F)),
    binary main_v0 main_v3 main_v4 (addi : (⟨S16x4096, .i32⟩ : BufTy).Contents (Elt F) → (⟨S16x4096, .i32⟩ : BufTy).Contents (Elt F) → (⟨S16x4096, .i32⟩ : BufTy).Contents (Elt F)),
    ternary main_v2 main_v4 main_v0 main_v5 (select : (⟨S16x4096, .i1⟩ : BufTy).Contents (Elt F) → (⟨S16x4096, .i32⟩ : BufTy).Contents (Elt F) → (⟨S16x4096, .i32⟩ : BufTy).Contents (Elt F) → (⟨S16x4096, .i32⟩ : BufTy).Contents (Elt F)),
    unary main_v5 main_v6 (broadcastInDim S16x4096x1 ![0, 1] bcast_S16x4096_S16x4096x1_0_1 : (⟨S16x4096, .i32⟩ : BufTy).Contents (Elt F) → (⟨S16x4096x1, .i32⟩ : BufTy).Contents (Elt F)),
    binary main_arg4 main_v6 main_v7 ((fun x i => Host.gather gather_S50000_S16x4096x1_S16x4096_n_0_n_n_0_2_1 x i) : (⟨S50000, .i1⟩ : BufTy).Contents (Elt F) → (⟨S16x4096x1, .i32⟩ : BufTy).Contents (Elt F) → (⟨S16x4096, .i1⟩ : BufTy).Contents (Elt F)),
    unary main_v7 main_v8 ((extui 32 · natLt_1_32) : (⟨S16x4096, .i1⟩ : BufTy).Contents (Elt F) → (⟨S16x4096, .i32⟩ : BufTy).Contents (Elt F)),
    TRef.nullary (TRef.of (T := ⟨S16x4096, .i32⟩) main_call1_v0) (iotaInDim S16x4096 32 1),
    TRef.nullary (TRef.of (T := ⟨S_, .i32⟩) main_call1_c) (constantI S_ 32 2147483648#32),
    TRef.nullary (TRef.of (T := ⟨S_, .i32⟩) main_call1_c_0) (constantI S_ 32 0#32),
    TRef.quaternary (TRef.of (T := ⟨S16x4096, .i32⟩) main_v8) (TRef.of (T := ⟨S16x4096, .i32⟩) main_call1_v0) (TRef.of (T := ⟨S_, .i32⟩) main_call1_c) (TRef.of (T := ⟨S_, .i32⟩) main_call1_c_0) (TRef.of (T := ⟨S16, .i32⟩) main_call1_v1_0) (fun x y u v j => (Host.reduce2 reducer_argmax_i32_i32 x y u v reducesTo_S16x4096_S16_d1 h_S_ j).1),
    TRef.quaternary (TRef.of (T := ⟨S16x4096, .i32⟩) main_v8) (TRef.of (T := ⟨S16x4096, .i32⟩) main_call1_v0) (TRef.of (T := ⟨S_, .i32⟩) main_call1_c) (TRef.of (T := ⟨S_, .i32⟩) main_call1_c_0) (TRef.of (T := ⟨S16, .i32⟩) main_v9) (fun x y u v j => (Host.reduce2 reducer_argmax_i32_i32 x y u v reducesTo_S16x4096_S16_d1 h_S_ j).2),
    nullary main_c_3 (constantI S_ 32 0#32),
    unary main_c_3 main_v10 (broadcastInDim S16x4096 ![] bcast_S_S16x4096 : (⟨S_, .i32⟩ : BufTy).Contents (Elt F) → (⟨S16x4096, .i32⟩ : BufTy).Contents (Elt F)),
    binary main_v0 main_v10 main_v11 (cmpi .slt : (⟨S16x4096, .i32⟩ : BufTy).Contents (Elt F) → (⟨S16x4096, .i32⟩ : BufTy).Contents (Elt F) → (⟨S16x4096, .i1⟩ : BufTy).Contents (Elt F)),
    nullary main_c_4 (constantI S_ 32 50000#32),
    unary main_c_4 main_v12 (broadcastInDim S16x4096 ![] bcast_S_S16x4096 : (⟨S_, .i32⟩ : BufTy).Contents (Elt F) → (⟨S16x4096, .i32⟩ : BufTy).Contents (Elt F)),
    binary main_v0 main_v12 main_v13 (addi : (⟨S16x4096, .i32⟩ : BufTy).Contents (Elt F) → (⟨S16x4096, .i32⟩ : BufTy).Contents (Elt F) → (⟨S16x4096, .i32⟩ : BufTy).Contents (Elt F)),
    ternary main_v11 main_v13 main_v0 main_v14 (select : (⟨S16x4096, .i1⟩ : BufTy).Contents (Elt F) → (⟨S16x4096, .i32⟩ : BufTy).Contents (Elt F) → (⟨S16x4096, .i32⟩ : BufTy).Contents (Elt F) → (⟨S16x4096, .i32⟩ : BufTy).Contents (Elt F)),
    unary main_v14 main_v15 (broadcastInDim S16x4096x1 ![0, 1] bcast_S16x4096_S16x4096x1_0_1 : (⟨S16x4096, .i32⟩ : BufTy).Contents (Elt F) → (⟨S16x4096x1, .i32⟩ : BufTy).Contents (Elt F)),
    binary main_arg3 main_v15 main_v16 ((fun x i => Host.gather gather_S50000_S16x4096x1_S16x4096_n_0_n_n_0_2_1 x i) : (⟨S50000, .i32⟩ : BufTy).Contents (Elt F) → (⟨S16x4096x1, .i32⟩ : BufTy).Contents (Elt F) → (⟨S16x4096, .i32⟩ : BufTy).Contents (Elt F)),
    nullary main_c_5 (constantI S_ 32 0#32),
    unary main_c_5 main_v17 (broadcastInDim S16x4096 ![] bcast_S_S16x4096 : (⟨S_, .i32⟩ : BufTy).Contents (Elt F) → (⟨S16x4096, .i32⟩ : BufTy).Contents (Elt F)),
    binary main_v16 main_v17 main_v18 (cmpi .sge : (⟨S16x4096, .i32⟩ : BufTy).Contents (Elt F) → (⟨S16x4096, .i32⟩ : BufTy).Contents (Elt F) → (⟨S16x4096, .i1⟩ : BufTy).Contents (Elt F)),
    nullary main_v19 (iotaInDim S4096 32 0),
    unary main_v19 main_v20 (broadcastInDim S1x4096 ![1] bcast_S4096_S1x4096_1 : (⟨S4096, .i32⟩ : BufTy).Contents (Elt F) → (⟨S1x4096, .i32⟩ : BufTy).Contents (Elt F)),
    unary main_v20 main_v21 (broadcastInDim S16x4096 ![0, 1] bcast_S1x4096_S16x4096_0_1 : (⟨S1x4096, .i32⟩ : BufTy).Contents (Elt F) → (⟨S16x4096, .i32⟩ : BufTy).Contents (Elt F)),
    nullary main_v22 (iotaInDim S10 32 0),
    unary main_v22 main_v23 (broadcastInDim S1x10 ![1] bcast_S10_S1x10_1 : (⟨S10, .i32⟩ : BufTy).Contents (Elt F) → (⟨S1x10, .i32⟩ : BufTy).Contents (Elt F)),
    unary main_v23 main_v24 (broadcastInDim S16x10 ![0, 1] bcast_S1x10_S16x10_0_1 : (⟨S1x10, .i32⟩ : BufTy).Contents (Elt F) → (⟨S16x10, .i32⟩ : BufTy).Contents (Elt F)),
    unary main_v18 main_v25 (noti : (⟨S16x4096, .i1⟩ : BufTy).Contents (Elt F) → (⟨S16x4096, .i1⟩ : BufTy).Contents (Elt F)),
    unary main_v9 main_v26 (broadcastInDim S16x1 ![0] bcast_S16_S16x1_0 : (⟨S16, .i32⟩ : BufTy).Contents (Elt F) → (⟨S16x1, .i32⟩ : BufTy).Contents (Elt F)),
    unary main_v26 main_v27 (broadcastInDim S16x4096 ![0, 1] bcast_S16x1_S16x4096_0_1 : (⟨S16x1, .i32⟩ : BufTy).Contents (Elt F) → (⟨S16x4096, .i32⟩ : BufTy).Contents (Elt F)),
    binary main_v21 main_v27 main_v28 (cmpi .slt : (⟨S16x4096, .i32⟩ : BufTy).Contents (Elt F) → (⟨S16x4096, .i32⟩ : BufTy).Contents (Elt F) → (⟨S16x4096, .i1⟩ : BufTy).Contents (Elt F)),
    binary main_v25 main_v28 main_v29 (andi : (⟨S16x4096, .i1⟩ : BufTy).Contents (Elt F) → (⟨S16x4096, .i1⟩ : BufTy).Contents (Elt F) → (⟨S16x4096, .i1⟩ : BufTy).Contents (Elt F)),
    nullary main_c_6 (constantI S_ 32 1#32),
    unary main_c_6 main_v30 (broadcastInDim S16x4096 ![] bcast_S_S16x4096 : (⟨S_, .i32⟩ : BufTy).Contents (Elt F) → (⟨S16x4096, .i32⟩ : BufTy).Contents (Elt F)),
    binary main_v21 main_v30 main_v31 (addi : (⟨S16x4096, .i32⟩ : BufTy).Contents (Elt F) → (⟨S16x4096, .i32⟩ : BufTy).Contents (Elt F) → (⟨S16x4096, .i32⟩ : BufTy).Contents (Elt F)),
    nullary main_c_7 (constantI S_ 32 0#32),
    TRef.unary (TRef.of (T := ⟨S_, .i32⟩) main_c_7) (TRef.of (T := ⟨S_, .i32⟩) main_call2_v0) id,
    TRef.unary (TRef.of (T := ⟨S_, .i32⟩) main_call2_v0) (TRef.of (T := ⟨S16x4096, .i32⟩) main_call2_v1) (broadcastInDim S16x4096 ![] bcast_S_S16x4096),
    TRef.ternary (TRef.of (T := ⟨S16x4096, .i1⟩) main_v29) (TRef.of (T := ⟨S16x4096, .i32⟩) main_v31) (TRef.of (T := ⟨S16x4096, .i32⟩) main_call2_v1) (TRef.of (T := ⟨S16x4096, .i32⟩) main_v32) select,
    nullary main_c_8 (constantI S_ 32 2147483648#32),
    binary main_v32 main_c_8 main_v33 ((fun x v => Host.reduce IntOp.maxsi x v reducesTo_S16x4096_S16_d1 h_S_) : (⟨S16x4096, .i32⟩ : BufTy).Contents (Elt F) → (⟨S_, .i32⟩ : BufTy).Contents (Elt F) → (⟨S16, .i32⟩ : BufTy).Contents (Elt F)),
    unary main_v9 main_v34 (broadcastInDim S16x1 ![0] bcast_S16_S16x1_0 : (⟨S16, .i32⟩ : BufTy).Contents (Elt F) → (⟨S16x1, .i32⟩ : BufTy).Contents (Elt F)),
    nullary main_c_9 (constantI S_ 32 1#32),
    unary main_c_9 main_v35 (broadcastInDim S16x1 ![] bcast_S_S16x1 : (⟨S_, .i32⟩ : BufTy).Contents (Elt F) → (⟨S16x1, .i32⟩ : BufTy).Contents (Elt F)),
    binary main_v34 main_v35 main_v36 (subi : (⟨S16x1, .i32⟩ : BufTy).Contents (Elt F) → (⟨S16x1, .i32⟩ : BufTy).Contents (Elt F) → (⟨S16x1, .i32⟩ : BufTy).Contents (Elt F)),
    unary main_v36 main_v37 (broadcastInDim S16x10 ![0, 1] bcast_S16x1_S16x10_0_1 : (⟨S16x1, .i32⟩ : BufTy).Contents (Elt F) → (⟨S16x10, .i32⟩ : BufTy).Contents (Elt F)),
    binary main_v37 main_v24 main_v38 (subi : (⟨S16x10, .i32⟩ : BufTy).Contents (Elt F) → (⟨S16x10, .i32⟩ : BufTy).Contents (Elt F) → (⟨S16x10, .i32⟩ : BufTy).Contents (Elt F)),
    unary main_v33 main_v39 (broadcastInDim S16x1 ![0] bcast_S16_S16x1_0 : (⟨S16, .i32⟩ : BufTy).Contents (Elt F) → (⟨S16x1, .i32⟩ : BufTy).Contents (Elt F)),
    unary main_v39 main_v40 (broadcastInDim S16x10 ![0, 1] bcast_S16x1_S16x10_0_1 : (⟨S16x1, .i32⟩ : BufTy).Contents (Elt F) → (⟨S16x10, .i32⟩ : BufTy).Contents (Elt F)),
    binary main_v38 main_v40 main_v41 (cmpi .sge : (⟨S16x10, .i32⟩ : BufTy).Contents (Elt F) → (⟨S16x10, .i32⟩ : BufTy).Contents (Elt F) → (⟨S16x10, .i1⟩ : BufTy).Contents (Elt F)),
    nullary main_c_10 (constantI S_ 32 0#32),
    nullary main_c_11 (constantI S_ 32 4095#32),
    TRef.unary (TRef.of (T := ⟨S_, .i32⟩) main_c_10) (TRef.of (T := ⟨S_, .i32⟩) main_call3_v0) id,
    TRef.unary (TRef.of (T := ⟨S_, .i32⟩) main_call3_v0) (TRef.of (T := ⟨S16x10, .i32⟩) main_call3_v1) (broadcastInDim S16x10 ![] bcast_S_S16x10),
    TRef.binary (TRef.of (T := ⟨S16x10, .i32⟩) main_call3_v1) (TRef.of (T := ⟨S16x10, .i32⟩) main_v38) (TRef.of (T := ⟨S16x10, .i32⟩) main_call3_v2) maxsi,
    TRef.unary (TRef.of (T := ⟨S_, .i32⟩) main_c_11) (TRef.of (T := ⟨S_, .i32⟩) main_call3_v3) id,
    TRef.unary (TRef.of (T := ⟨S_, .i32⟩) main_call3_v3) (TRef.of (T := ⟨S16x10, .i32⟩) main_call3_v4) (broadcastInDim S16x10 ![] bcast_S_S16x10),
    TRef.binary (TRef.of (T := ⟨S16x10, .i32⟩) main_call3_v4) (TRef.of (T := ⟨S16x10, .i32⟩) main_call3_v2) (TRef.of (T := ⟨S16x10, .i32⟩) main_v42) minsi,
    TRef.nullary (TRef.of (T := ⟨S_, .i32⟩) main_call4_c) (constantI S_ 32 0#32),
    TRef.unary (TRef.of (T := ⟨S_, .i32⟩) main_call4_c) (TRef.of (T := ⟨S16x10, .i32⟩) main_call4_v0) (broadcastInDim S16x10 ![] bcast_S_S16x10),
    TRef.binary (TRef.of (T := ⟨S16x10, .i32⟩) main_v42) (TRef.of (T := ⟨S16x10, .i32⟩) main_call4_v0) (TRef.of (T := ⟨S16x10, .i1⟩) main_call4_v1) (cmpi .slt),
    TRef.nullary (TRef.of (T := ⟨S_, .i32⟩) main_call4_c_0) (constantI S_ 32 4096#32),
    TRef.unary (TRef.of (T := ⟨S_, .i32⟩) main_call4_c_0) (TRef.of (T := ⟨S16x10, .i32⟩) main_call4_v2) (broadcastInDim S16x10 ![] bcast_S_S16x10),
    TRef.binary (TRef.of (T := ⟨S16x10, .i32⟩) main_v42) (TRef.of (T := ⟨S16x10, .i32⟩) main_call4_v2) (TRef.of (T := ⟨S16x10, .i32⟩) main_call4_v3) addi,
    TRef.ternary (TRef.of (T := ⟨S16x10, .i1⟩) main_call4_v1) (TRef.of (T := ⟨S16x10, .i32⟩) main_call4_v3) (TRef.of (T := ⟨S16x10, .i32⟩) main_v42) (TRef.of (T := ⟨S16x10, .i32⟩) main_call4_v4) select,
    TRef.reshape (TRef.of (T := ⟨S16x10, .i32⟩) main_call4_v4) (TRef.of (T := ⟨S16x10x1, .i32⟩) main_call4_v5) (rfl : (.i32 : EltTy) = .i32) shapeCasts_S16x10_S16x10x1,
    TRef.nullary (TRef.of (T := ⟨S1, .i32⟩) main_call4_c_1) (constantI S1 32 4095#32),
    TRef.nullary (TRef.of (T := ⟨S_, .i32⟩) main_call4_c_2) (constantI S_ 32 0#32),
    TRef.unary (TRef.of (T := ⟨S_, .i32⟩) main_call4_c_2) (TRef.of (T := ⟨S16x10x1, .i32⟩) main_call4_v6) (broadcastInDim S16x10x1 ![] bcast_S_S16x10x1),
    TRef.binary (TRef.of (T := ⟨S16x10x1, .i32⟩) main_call4_v5) (TRef.of (T := ⟨S16x10x1, .i32⟩) main_call4_v6) (TRef.of (T := ⟨S16x10x1, .i1⟩) main_call4_v7) (cmpi .sge),
    TRef.unary (TRef.of (T := ⟨S1, .i32⟩) main_call4_c_1) (TRef.of (T := ⟨S1x1x1, .i32⟩) main_call4_v8) (broadcastInDim S1x1x1 ![2] bcast_S1_S1x1x1_2),
    TRef.unary (TRef.of (T := ⟨S1x1x1, .i32⟩) main_call4_v8) (TRef.of (T := ⟨S16x10x1, .i32⟩) main_call4_v9) (broadcastInDim S16x10x1 ![0, 1, 2] bcast_S1x1x1_S16x10x1_0_1_2),
    TRef.binary (TRef.of (T := ⟨S16x10x1, .i32⟩) main_call4_v5) (TRef.of (T := ⟨S16x10x1, .i32⟩) main_call4_v9) (TRef.of (T := ⟨S16x10x1, .i1⟩) main_call4_v10) (cmpi .sle),
    TRef.binary (TRef.of (T := ⟨S16x10x1, .i1⟩) main_call4_v7) (TRef.of (T := ⟨S16x10x1, .i1⟩) main_call4_v10) (TRef.of (T := ⟨S16x10x1, .i1⟩) main_call4_v11) andi,
    TRef.nullary (TRef.of (T := ⟨S_, .i1⟩) main_call4_c_3) (constantI S_ 1 1#1),
    TRef.binary (TRef.of (T := ⟨S16x10x1, .i1⟩) main_call4_v11) (TRef.of (T := ⟨S_, .i1⟩) main_call4_c_3) (TRef.of (T := ⟨S16x10, .i1⟩) main_call4_v12) (fun x v => Host.reduce IntOp.andi x v reducesTo_S16x10x1_S16x10_d2 h_S_),
    TRef.binary (TRef.of (T := ⟨S16x4096, .i32⟩) main_v16) (TRef.of (T := ⟨S16x10x1, .i32⟩) main_call4_v5) (TRef.of (T := ⟨S16x10, .i32⟩) main_call4_v13) (fun x i => Host.gather gather_S16x4096_S16x10x1_S16x10_n_1_0_0_1_2_11 x i),
    TRef.nullary (TRef.of (T := ⟨S_, .i32⟩) main_call4_c_4) (constantI S_ 32 2147483648#32),
    TRef.unary (TRef.of (T := ⟨S_, .i32⟩) main_call4_c_4) (TRef.of (T := ⟨S16x10, .i32⟩) main_call4_v14) (broadcastInDim S16x10 ![] bcast_S_S16x10),
    TRef.ternary (TRef.of (T := ⟨S16x10, .i1⟩) main_call4_v12) (TRef.of (T := ⟨S16x10, .i32⟩) main_call4_v13) (TRef.of (T := ⟨S16x10, .i32⟩) main_call4_v14) (TRef.of (T := ⟨S16x10, .i32⟩) main_v43) select,
    nullary main_c_12 (constantI S_ 32 0#32),
    unary main_c_12 main_v44 (broadcastInDim S16x10 ![] bcast_S_S16x10 : (⟨S_, .i32⟩ : BufTy).Contents (Elt F) → (⟨S16x10, .i32⟩ : BufTy).Contents (Elt F)),
    TRef.ternary (TRef.of (T := ⟨S16x10, .i1⟩) main_v41) (TRef.of (T := ⟨S16x10, .i32⟩) main_v43) (TRef.of (T := ⟨S16x10, .i32⟩) main_v44) (TRef.of (T := ⟨S16x10, .i32⟩) main_v45) select,
    unary main_v45 main_v46 (sitofp .f32 : (⟨S16x10, .i32⟩ : BufTy).Contents (Elt F) → (⟨S16x10, .f32⟩ : BufTy).Contents (Elt F)),
    unary main_v18 main_v47 (noti : (⟨S16x4096, .i1⟩ : BufTy).Contents (Elt F) → (⟨S16x4096, .i1⟩ : BufTy).Contents (Elt F)),
    unary main_v9 main_v48 (broadcastInDim S16x1 ![0] bcast_S16_S16x1_0 : (⟨S16, .i32⟩ : BufTy).Contents (Elt F) → (⟨S16x1, .i32⟩ : BufTy).Contents (Elt F)),
    unary main_v48 main_v49 (broadcastInDim S16x4096 ![0, 1] bcast_S16x1_S16x4096_0_1 : (⟨S16x1, .i32⟩ : BufTy).Contents (Elt F) → (⟨S16x4096, .i32⟩ : BufTy).Contents (Elt F)),
    binary main_v21 main_v49 main_v50 (cmpi .sgt : (⟨S16x4096, .i32⟩ : BufTy).Contents (Elt F) → (⟨S16x4096, .i32⟩ : BufTy).Contents (Elt F) → (⟨S16x4096, .i1⟩ : BufTy).Contents (Elt F)),
    binary main_v47 main_v50 main_v51 (andi : (⟨S16x4096, .i1⟩ : BufTy).Contents (Elt F) → (⟨S16x4096, .i1⟩ : BufTy).Contents (Elt F) → (⟨S16x4096, .i1⟩ : BufTy).Contents (Elt F)),
    nullary main_c_13 (constantI S_ 32 4096#32),
    TRef.unary (TRef.of (T := ⟨S_, .i32⟩) main_c_13) (TRef.of (T := ⟨S_, .i32⟩) main_call6_v0) id,
    TRef.unary (TRef.of (T := ⟨S_, .i32⟩) main_call6_v0) (TRef.of (T := ⟨S16x4096, .i32⟩) main_call6_v1) (broadcastInDim S16x4096 ![] bcast_S_S16x4096),
    TRef.ternary (TRef.of (T := ⟨S16x4096, .i1⟩) main_v51) (TRef.of (T := ⟨S16x4096, .i32⟩) main_v21) (TRef.of (T := ⟨S16x4096, .i32⟩) main_call6_v1) (TRef.of (T := ⟨S16x4096, .i32⟩) main_v52) select,
    nullary main_c_14 (constantI S_ 32 2147483647#32),
    binary main_v52 main_c_14 main_v53 ((fun x v => Host.reduce IntOp.minsi x v reducesTo_S16x4096_S16_d1 h_S_) : (⟨S16x4096, .i32⟩ : BufTy).Contents (Elt F) → (⟨S_, .i32⟩ : BufTy).Contents (Elt F) → (⟨S16, .i32⟩ : BufTy).Contents (Elt F)),
    nullary main_c_15 (constantI S_ 32 1#32),
    unary main_c_15 main_v54 (broadcastInDim S16 ![] bcast_S_S16 : (⟨S_, .i32⟩ : BufTy).Contents (Elt F) → (⟨S16, .i32⟩ : BufTy).Contents (Elt F)),
    binary main_v53 main_v54 main_v55 (subi : (⟨S16, .i32⟩ : BufTy).Contents (Elt F) → (⟨S16, .i32⟩ : BufTy).Contents (Elt F) → (⟨S16, .i32⟩ : BufTy).Contents (Elt F)),
    unary main_v55 main_v56 (broadcastInDim S16x1 ![0] bcast_S16_S16x1_0 : (⟨S16, .i32⟩ : BufTy).Contents (Elt F) → (⟨S16x1, .i32⟩ : BufTy).Contents (Elt F)),
    unary main_v56 main_v57 (broadcastInDim S16x10 ![0, 1] bcast_S16x1_S16x10_0_1 : (⟨S16x1, .i32⟩ : BufTy).Contents (Elt F) → (⟨S16x10, .i32⟩ : BufTy).Contents (Elt F)),
    binary main_v57 main_v24 main_v58 (subi : (⟨S16x10, .i32⟩ : BufTy).Contents (Elt F) → (⟨S16x10, .i32⟩ : BufTy).Contents (Elt F) → (⟨S16x10, .i32⟩ : BufTy).Contents (Elt F)),
    unary main_v9 main_v59 (broadcastInDim S16x1 ![0] bcast_S16_S16x1_0 : (⟨S16, .i32⟩ : BufTy).Contents (Elt F) → (⟨S16x1, .i32⟩ : BufTy).Contents (Elt F)),
    unary main_v59 main_v60 (broadcastInDim S16x10 ![0, 1] bcast_S16x1_S16x10_0_1 : (⟨S16x1, .i32⟩ : BufTy).Contents (Elt F) → (⟨S16x10, .i32⟩ : BufTy).Contents (Elt F)),
    binary main_v58 main_v60 main_v61 (cmpi .sgt : (⟨S16x10, .i32⟩ : BufTy).Contents (Elt F) → (⟨S16x10, .i32⟩ : BufTy).Contents (Elt F) → (⟨S16x10, .i1⟩ : BufTy).Contents (Elt F)),
    nullary main_c_16 (constantI S_ 32 0#32),
    nullary main_c_17 (constantI S_ 32 4095#32),
    TRef.unary (TRef.of (T := ⟨S_, .i32⟩) main_c_16) (TRef.of (T := ⟨S_, .i32⟩) main_call7_v0) id,
    TRef.unary (TRef.of (T := ⟨S_, .i32⟩) main_call7_v0) (TRef.of (T := ⟨S16x10, .i32⟩) main_call7_v1) (broadcastInDim S16x10 ![] bcast_S_S16x10),
    TRef.binary (TRef.of (T := ⟨S16x10, .i32⟩) main_call7_v1) (TRef.of (T := ⟨S16x10, .i32⟩) main_v58) (TRef.of (T := ⟨S16x10, .i32⟩) main_call7_v2) maxsi,
    TRef.unary (TRef.of (T := ⟨S_, .i32⟩) main_c_17) (TRef.of (T := ⟨S_, .i32⟩) main_call7_v3) id,
    TRef.unary (TRef.of (T := ⟨S_, .i32⟩) main_call7_v3) (TRef.of (T := ⟨S16x10, .i32⟩) main_call7_v4) (broadcastInDim S16x10 ![] bcast_S_S16x10),
    TRef.binary (TRef.of (T := ⟨S16x10, .i32⟩) main_call7_v4) (TRef.of (T := ⟨S16x10, .i32⟩) main_call7_v2) (TRef.of (T := ⟨S16x10, .i32⟩) main_v62) minsi,
    TRef.nullary (TRef.of (T := ⟨S_, .i32⟩) main_call8_c) (constantI S_ 32 0#32),
    TRef.unary (TRef.of (T := ⟨S_, .i32⟩) main_call8_c) (TRef.of (T := ⟨S16x10, .i32⟩) main_call8_v0) (broadcastInDim S16x10 ![] bcast_S_S16x10),
    TRef.binary (TRef.of (T := ⟨S16x10, .i32⟩) main_v62) (TRef.of (T := ⟨S16x10, .i32⟩) main_call8_v0) (TRef.of (T := ⟨S16x10, .i1⟩) main_call8_v1) (cmpi .slt),
    TRef.nullary (TRef.of (T := ⟨S_, .i32⟩) main_call8_c_0) (constantI S_ 32 4096#32),
    TRef.unary (TRef.of (T := ⟨S_, .i32⟩) main_call8_c_0) (TRef.of (T := ⟨S16x10, .i32⟩) main_call8_v2) (broadcastInDim S16x10 ![] bcast_S_S16x10),
    TRef.binary (TRef.of (T := ⟨S16x10, .i32⟩) main_v62) (TRef.of (T := ⟨S16x10, .i32⟩) main_call8_v2) (TRef.of (T := ⟨S16x10, .i32⟩) main_call8_v3) addi,
    TRef.ternary (TRef.of (T := ⟨S16x10, .i1⟩) main_call8_v1) (TRef.of (T := ⟨S16x10, .i32⟩) main_call8_v3) (TRef.of (T := ⟨S16x10, .i32⟩) main_v62) (TRef.of (T := ⟨S16x10, .i32⟩) main_call8_v4) select,
    TRef.reshape (TRef.of (T := ⟨S16x10, .i32⟩) main_call8_v4) (TRef.of (T := ⟨S16x10x1, .i32⟩) main_call8_v5) (rfl : (.i32 : EltTy) = .i32) shapeCasts_S16x10_S16x10x1,
    TRef.nullary (TRef.of (T := ⟨S1, .i32⟩) main_call8_c_1) (constantI S1 32 4095#32),
    TRef.nullary (TRef.of (T := ⟨S_, .i32⟩) main_call8_c_2) (constantI S_ 32 0#32),
    TRef.unary (TRef.of (T := ⟨S_, .i32⟩) main_call8_c_2) (TRef.of (T := ⟨S16x10x1, .i32⟩) main_call8_v6) (broadcastInDim S16x10x1 ![] bcast_S_S16x10x1),
    TRef.binary (TRef.of (T := ⟨S16x10x1, .i32⟩) main_call8_v5) (TRef.of (T := ⟨S16x10x1, .i32⟩) main_call8_v6) (TRef.of (T := ⟨S16x10x1, .i1⟩) main_call8_v7) (cmpi .sge),
    TRef.unary (TRef.of (T := ⟨S1, .i32⟩) main_call8_c_1) (TRef.of (T := ⟨S1x1x1, .i32⟩) main_call8_v8) (broadcastInDim S1x1x1 ![2] bcast_S1_S1x1x1_2),
    TRef.unary (TRef.of (T := ⟨S1x1x1, .i32⟩) main_call8_v8) (TRef.of (T := ⟨S16x10x1, .i32⟩) main_call8_v9) (broadcastInDim S16x10x1 ![0, 1, 2] bcast_S1x1x1_S16x10x1_0_1_2),
    TRef.binary (TRef.of (T := ⟨S16x10x1, .i32⟩) main_call8_v5) (TRef.of (T := ⟨S16x10x1, .i32⟩) main_call8_v9) (TRef.of (T := ⟨S16x10x1, .i1⟩) main_call8_v10) (cmpi .sle),
    TRef.binary (TRef.of (T := ⟨S16x10x1, .i1⟩) main_call8_v7) (TRef.of (T := ⟨S16x10x1, .i1⟩) main_call8_v10) (TRef.of (T := ⟨S16x10x1, .i1⟩) main_call8_v11) andi,
    TRef.nullary (TRef.of (T := ⟨S_, .i1⟩) main_call8_c_3) (constantI S_ 1 1#1),
    TRef.binary (TRef.of (T := ⟨S16x10x1, .i1⟩) main_call8_v11) (TRef.of (T := ⟨S_, .i1⟩) main_call8_c_3) (TRef.of (T := ⟨S16x10, .i1⟩) main_call8_v12) (fun x v => Host.reduce IntOp.andi x v reducesTo_S16x10x1_S16x10_d2 h_S_),
    TRef.binary (TRef.of (T := ⟨S16x4096, .i32⟩) main_v16) (TRef.of (T := ⟨S16x10x1, .i32⟩) main_call8_v5) (TRef.of (T := ⟨S16x10, .i32⟩) main_call8_v13) (fun x i => Host.gather gather_S16x4096_S16x10x1_S16x10_n_1_0_0_1_2_11 x i),
    TRef.nullary (TRef.of (T := ⟨S_, .i32⟩) main_call8_c_4) (constantI S_ 32 2147483648#32),
    TRef.unary (TRef.of (T := ⟨S_, .i32⟩) main_call8_c_4) (TRef.of (T := ⟨S16x10, .i32⟩) main_call8_v14) (broadcastInDim S16x10 ![] bcast_S_S16x10),
    TRef.ternary (TRef.of (T := ⟨S16x10, .i1⟩) main_call8_v12) (TRef.of (T := ⟨S16x10, .i32⟩) main_call8_v13) (TRef.of (T := ⟨S16x10, .i32⟩) main_call8_v14) (TRef.of (T := ⟨S16x10, .i32⟩) main_v63) select,
    nullary main_c_18 (constantI S_ 32 0#32),
    unary main_c_18 main_v64 (broadcastInDim S16x10 ![] bcast_S_S16x10 : (⟨S_, .i32⟩ : BufTy).Contents (Elt F) → (⟨S16x10, .i32⟩ : BufTy).Contents (Elt F)),
    TRef.ternary (TRef.of (T := ⟨S16x10, .i1⟩) main_v61) (TRef.of (T := ⟨S16x10, .i32⟩) main_v63) (TRef.of (T := ⟨S16x10, .i32⟩) main_v64) (TRef.of (T := ⟨S16x10, .i32⟩) main_v65) select,
    unary main_v65 main_v66 (sitofp .f32 : (⟨S16x10, .i32⟩ : BufTy).Contents (Elt F) → (⟨S16x10, .f32⟩ : BufTy).Contents (Elt F)),
    unary main_v46 main_v67 (broadcastInDim S16x1x10 ![0, 2] bcast_S16x10_S16x1x10_0_2 : (⟨S16x10, .f32⟩ : BufTy).Contents (Elt F) → (⟨S16x1x10, .f32⟩ : BufTy).Contents (Elt F)),
    unary main_v67 main_v68 (broadcastInDim S16x4096x10 ![0, 1, 2] bcast_S16x1x10_S16x4096x10_0_1_2 : (⟨S16x1x10, .f32⟩ : BufTy).Contents (Elt F) → (⟨S16x4096x10, .f32⟩ : BufTy).Contents (Elt F)),
    unary main_v66 main_v69 (broadcastInDim S16x1x10 ![0, 2] bcast_S16x10_S16x1x10_0_2 : (⟨S16x10, .f32⟩ : BufTy).Contents (Elt F) → (⟨S16x1x10, .f32⟩ : BufTy).Contents (Elt F)),
    unary main_v69 main_v70 (broadcastInDim S16x4096x10 ![0, 1, 2] bcast_S16x1x10_S16x4096x10_0_1_2 : (⟨S16x1x10, .f32⟩ : BufTy).Contents (Elt F) → (⟨S16x4096x10, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., unary_bufs_sub .., nullary_bufs_sub .., unary_bufs_sub .., unary_bufs_sub .., unary_bufs_sub .., unary_bufs_sub .., unary_bufs_sub .., binary_bufs_sub .., binary_bufs_sub .., nullary_bufs_sub .., unary_bufs_sub .., binary_bufs_sub .., nullary_bufs_sub .., unary_bufs_sub .., unary_bufs_sub .., ternary_bufs_sub .., nullary_bufs_sub .., binary_bufs_sub .., unary_bufs_sub .., nullary_bufs_sub .., unary_bufs_sub .., binary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., unary_bufs_sub .., ternary_bufs_sub .., unary_bufs_sub .., unary_bufs_sub .., unary_bufs_sub .., unary_bufs_sub .., binary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., unary_bufs_sub .., ternary_bufs_sub .., unary_bufs_sub .., unary_bufs_sub .., unary_bufs_sub .., unary_bufs_sub .., unary_bufs_sub ..⟩

set_option maxRecDepth 65536 in
set_option maxHeartbeats 20000000 in
/-- The first result after the operations, over any contents before them. -/
theorem after_A (V : Valuation τ sig (Elt F)) : after ops V (Proc.devRef .tc main_v68)
    = resA (V (Proc.devRef .tc main_arg1)) (V (Proc.devRef .tc main_arg3)) (V (Proc.devRef .tc main_arg4)) := by
  after_reads_simp
  simp only [TRef.toBuf, TRef.ofBuf, cast_eq]
  rfl

set_option maxRecDepth 65536 in
set_option maxHeartbeats 20000000 in
/-- The second result after the operations, over any contents before them. -/
theorem after_B (V : Valuation τ sig (Elt F)) : after ops V (Proc.devRef .tc main_v70)
    = resB (V (Proc.devRef .tc main_arg1)) (V (Proc.devRef .tc main_arg3)) (V (Proc.devRef .tc main_arg4)) := by
  after_reads_simp
  simp only [TRef.toBuf, TRef.ofBuf, cast_eq]
  rfl

set_option maxRecDepth 8192 in
set_option maxHeartbeats 20000000 in
/-- Argument 0 is not written. -/
theorem after_arg0 (V : Valuation τ sig (Elt F)) : after ops V (Proc.devRef .tc main_arg0) = V (Proc.devRef .tc main_arg0) := by
  after_reads_simp

set_option maxRecDepth 8192 in
set_option maxHeartbeats 20000000 in
/-- Argument 1 is not written. -/
theorem after_arg1 (V : Valuation τ sig (Elt F)) : after ops V (Proc.devRef .tc main_arg1) = V (Proc.devRef .tc main_arg1) := by
  after_reads_simp

set_option maxRecDepth 8192 in
set_option maxHeartbeats 20000000 in
/-- Argument 2 is not written. -/
theorem after_arg2 (V : Valuation τ sig (Elt F)) : after ops V (Proc.devRef .tc main_arg2) = V (Proc.devRef .tc main_arg2) := by
  after_reads_simp

set_option maxRecDepth 8192 in
set_option maxHeartbeats 20000000 in
/-- Argument 3 is not written. -/
theorem after_arg3 (V : Valuation τ sig (Elt F)) : after ops V (Proc.devRef .tc main_arg3) = V (Proc.devRef .tc main_arg3) := by
  after_reads_simp

set_option maxRecDepth 8192 in
set_option maxHeartbeats 20000000 in
/-- Argument 4 is not written. -/
theorem after_arg4 (V : Valuation τ sig (Elt F)) : after ops V (Proc.devRef .tc main_arg4) = V (Proc.devRef .tc main_arg4) := by
  after_reads_simp

set_option maxRecDepth 8192 in
set_option maxHeartbeats 20000000 in
/-- Every weakly fair execution of the reference, from any memory with zero counters, ends with the two results at `resA` and
    `resB` of the launch contents, the arguments unchanged, and every counter at zero. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v68) = resA (F := F) (m ((c.tc : Thread nD τ).loc main_arg1)) (m ((c.tc : Thread nD τ).loc main_arg3)) (m ((c.tc : Thread nD τ).loc main_arg4))
      ∧ r.2.mem ((c.tc : Thread nD τ).loc main_v70) = resB (F := F) (m ((c.tc : Thread nD τ).loc main_arg1)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => ⟨(h c main_v68).trans (after_A _), (h c main_v70).trans (after_B _),
      (h c main_arg0).trans (after_arg0 _), (h c main_arg1).trans (after_arg1 _), (h c main_arg2).trans (after_arg2 _), (h c main_arg3).trans (after_arg3 _), (h c main_arg4).trans (after_arg4 _)⟩,
      sem_eq_zero_of_no_sems rfl r.2⟩)
    (run_seq scopedRefs_eq scopedSems_eq defs main (fun _ => ops) main_eq (fun _ => ops_sub) m ρ)

end Cert.ReferenceIdeal.Value

end
-- ==== Proof.Tables.lean ====
/-
  What the precondition says of the two tables, entry by entry: the digit table holds an id's last decimal digit below 1000 and -1
  from there on, and the operator table holds the ids from 1000 to 1004.
-/
module

public import proofs.«01_k».proof.Pre_frozen_tables
public import Idealize.ShloMosaic.Lib.Pointwise
public import Idealize.ShloMosaic.Lib.ReduceAll

@[expose] public section

noncomputable section

namespace Cert.Pre_frozen_tables

open Idealize.ShloMosaic

/-- The shape relations that the precondition's operations take. -/
instance facts : Facts where
  bcast_S_S50000 := by decide
  reducesTo_S50000_S_d0 := by decide
  h_S_ := by decide

/-- The remainder of a place below 1000, as the precondition computes it. -/
theorem rem_small (n : ℕ) (h : n < 1000) : (BitVec.ofNat 32 n).srem 10#32 = BitVec.ofNat 32 (n % 10) := by
  apply BitVec.eq_of_toNat_eq
  rw [BitVec.srem_eq]
  have hm : (BitVec.ofNat 32 n).msb = false := by
    rw [BitVec.msb_eq_decide, BitVec.toNat_ofNat]
    simp; omega
  rw [hm, show (10#32 : BitVec 32).msb = false from by decide]
  simp only [BitVec.umod_eq, BitVec.toNat_umod, BitVec.toNat_ofNat]
  rw [Nat.mod_eq_of_lt (show n < 2 ^ 32 by omega), Nat.mod_eq_of_lt (show 10 < 2 ^ 32 by omega), Nat.mod_eq_of_lt (show n % 10 < 2 ^ 32 by omega)]

/-- The sign of a small word. -/
theorem toInt_small (n : ℕ) (h : n < 50000) : (BitVec.ofNat 32 n).toInt = n := by
  rw [BitVec.toInt_eq_toNat_cond, BitVec.toNat_ofNat, Nat.mod_eq_of_lt (by omega), if_pos (by omega)]

/-- A place compared with a small bound. -/
theorem slt_small (n k : ℕ) (h : n < 50000) (hk : k < 50000) :
    IntOp.cmpi .slt (BitVec.ofNat 32 n) (BitVec.ofNat 32 k) = BitVec.ofBool (decide (n < k)) := by
  simp only [IntOp.cmpi, BitVec.slt_eq_decide, toInt_small n h, toInt_small k hk, Nat.cast_lt]

/-- A small bound compared with a place. -/
theorem sge_small (n k : ℕ) (h : n < 50000) (hk : k < 50000) :
    IntOp.cmpi .sge (BitVec.ofNat 32 n) (BitVec.ofNat 32 k) = BitVec.ofBool (decide (k ≤ n)) := by
  simp only [IntOp.cmpi, BitVec.sle_eq_decide, toInt_small n h, toInt_small k hk, Nat.cast_le]

/-- The divisor that the remainder takes. -/
theorem divisor : Scalar.select (IntOp.cmpi .eq (10#32) 0#32) (1#32) 10#32 = 10#32 := by decide

/-- A digit's sign never calls for the correction of the remainder. -/
theorem sign_digit (d : Fin 10) :
    Scalar.select (IntOp.andi (IntOp.cmpi .ne (IntOp.cmpi .slt (BitVec.ofNat 32 d) 0#32) (IntOp.cmpi .slt 10#32 0#32))
      (IntOp.cmpi .ne (BitVec.ofNat 32 d) 0#32)) (IntOp.addi (BitVec.ofNat 32 d) 10#32) (BitVec.ofNat 32 d) = BitVec.ofNat 32 d := by
  revert d; decide

/-- The precondition's digit at a place. -/
theorem digit_at [Facts] (n : Fin 50000) :
    fn_where_0 (F := Ideal) (cmpi .slt (iotaInDim S50000 32 0) (broadcastInDim S50000 ![] Facts.bcast_S_S50000 (constantI S_ 32 1000#32)))
        (fn_remainder (F := Ideal) (iotaInDim S50000 32 0) (constantI S_ 32 10#32)) (constantI S_ 32 4294967295#32) (ix1 n)
      = if n.val < 1000 then BitVec.ofNat 32 (n.val % 10) else 4294967295#32 := by
  pointwise [fn_where_0, fn_remainder, fn_where]
  simp only [id, constantI, divisor]
  rw [show (1000#32 : BitVec 32) = BitVec.ofNat 32 1000 from rfl, slt_small _ _ n.isLt (by omega)]
  by_cases h : n.val < 1000
  · have hr : IntOp.remsi .host (BitVec.ofNat 32 n.val) 10#32 = BitVec.ofNat 32 (n.val % 10) := by
      rw [IntOp.remsi, if_neg (by simp [IntOp.SDivCorner]), rem_small _ h]
    rw [hr, sign_digit ⟨n.val % 10, by omega⟩, decide_eq_true h, if_pos h]
    rfl
  · rw [decide_eq_false h, if_neg h]
    rfl

/-- The tables, entry by entry. -/
theorem tables [Facts] (x0 : FVec Ideal S16x4096x2048 .f32) (x1 : IVec S16x4096 32) (x2 : FVec Ideal S16x4096 .f32) (td : IVec S50000 32)
    (tp : IVec S50000 1) (h : fn (F := Ideal) x0 x1 x2 td tp = fun _ => 1#1) :
    (∀ n : S50000.Idx, td n = if (n 0).val < 1000 then BitVec.ofNat 32 ((n 0).val % 10) else 4294967295#32)
      ∧ ∀ n : S50000.Idx, tp n = BitVec.ofBool (decide (1000 ≤ (n 0).val ∧ (n 0).val < 1005)) := by
  have h0 := congrFun h (Shape.Idx.first Facts.h_S_)
  dsimp only [fn] at h0
  obtain ⟨ha, hb⟩ := IntOp.andi_eq_one.1 h0
  have : Subsingleton S_.Idx := ⟨fun a b => funext fun i => i.elim0⟩
  refine ⟨fun i => ?_, fun i => ?_⟩
  · obtain ⟨n, rfl⟩ : ∃ n : Fin 50000, i = ix1 n := ⟨i 0, by funext a; match a with | ⟨0, _⟩ => rfl⟩
    have e := Host.reduce_andi_all _ _ _ _ _ ha (ix1 n)
    have e' := eq_of_beq (BitVec.ofBool_eq_iff_eq.1 (show BitVec.ofBool (td (ix1 n) == _) = BitVec.ofBool true from e))
    exact e'.trans (digit_at n)
  · obtain ⟨n, rfl⟩ : ∃ n : Fin 50000, i = ix1 n := ⟨i 0, by funext a; match a with | ⟨0, _⟩ => rfl⟩
    have e := Host.reduce_andi_all _ _ _ _ _ hb (ix1 n)
    have e' := eq_of_beq (BitVec.ofBool_eq_iff_eq.1 (show BitVec.ofBool (tp (ix1 n) == _) = BitVec.ofBool true from e))
    refine e'.trans ?_
    pointwise []
    rw [show (1000#32 : BitVec 32) = BitVec.ofNat 32 1000 from rfl, show (1005#32 : BitVec 32) = BitVec.ofNat 32 1005 from rfl,
      sge_small _ _ n.isLt (by omega), slt_small _ _ n.isLt (by omega)]
    by_cases h1 : 1000 ≤ n.val <;> by_cases h2 : n.val < 1005 <;> simp [h1, h2, IntOp.andi]

end Cert.Pre_frozen_tables

end
-- ==== Proof.Frames.lean ====
/-
  The three frames: the kernel at its own number formats, the kernel at exact numbers, the reference at exact numbers. Each says
  that from any memory with zero counters every execution ends with the arguments unchanged and every counter at zero.
-/
module

public import proofs.«01_k».proof.Defs
public import proofs.«01_k».proof.Proof.Gen.Kernel.Frame
public import proofs.«01_k».proof.Proof.Gen.KernelIdeal.Frame
public import proofs.«01_k».proof.Proof.RefRun
public import proofs.«01_k».proof.Proof.Tables

@[expose] public section

noncomputable section

namespace Cert.Proof

open Idealize.ShloMosaic Idealize.SL.Sem

/-- The kernel's frame at its own number formats. -/
theorem frame_kernel : quiescent_Kernel (hKernel := Cert.Kernel.Gen.facts) := fun m g _ => Cert.Kernel.Gen.frame m g

/-- The kernel's frame at exact numbers. -/
theorem frame_ideal : quiescent_KernelIdeal (hKernelIdeal := Cert.KernelIdeal.Gen.facts) :=
  fun m g _ => Cert.KernelIdeal.Gen.frame m g

/-- The kernel's frame at exact numbers, on the frozen tables: the one on any tables gives it. -/
theorem frame_ideal_tables : quiescent_KernelIdeal_pre_frozen_tables (hKernelIdeal := Cert.KernelIdeal.Gen.facts)
    (hPre_frozen_tables := Cert.Pre_frozen_tables.facts) := fun m g _ => frame_ideal m g trivial

/-- The reference's frame at exact numbers. -/
theorem frame_reference : quiescent_ReferenceIdeal (hReferenceIdeal := Cert.ReferenceIdeal.Gen.facts) := fun m g _ =>
  (θ_run Cert.ReferenceIdeal.defs _ _).mono (fun _ h => ⟨fun c => (h.1 c).2.2, h.2⟩) (Cert.ReferenceIdeal.Value.run m g)

/-- The reference's frame at exact numbers, on the frozen tables: the one on any tables gives it. -/
theorem frame_reference_tables : quiescent_ReferenceIdeal_pre_frozen_tables (hReferenceIdeal := Cert.ReferenceIdeal.Gen.facts)
    (hPre_frozen_tables := Cert.Pre_frozen_tables.facts) := fun m g _ => frame_reference m g trivial

end Cert.Proof

end
-- ==== Proof.Spec.lean ====
/-
  The mathematics both programs compute, on one row of 4096 ids as 32-bit words: the digit and the operator flag of an id, the
  position of the first operator, where the number before it starts and where the number after it ends, and the ten digits read
  backwards from the end of each number.
-/
module

public import Idealize.ShloMosaic.Lib.Pointwise

@[expose] public section

namespace Cert.Spec

open Idealize.ShloMosaic

/-- A row of ids, or of digits. -/
abbrev Row := Fin 4096 → BitVec 32

/-- An id held between 0 and 49999. -/
def idOf (w : BitVec 32) : BitVec 32 := IntOp.minsi 49999#32 (IntOp.maxsi 0#32 w)

/-- The digit an id stands for: its last decimal digit below 1000, and -1 from there on. -/
def digit (w : BitVec 32) : BitVec 32 :=
  Scalar.select (IntOp.cmpi .slt (idOf w) 1000#32)
    (IntOp.subi (idOf w) (IntOp.muli (IntOp.shrui .vector (IntOp.muli (idOf w) 6554#32) 16#32) 10#32)) 4294967295#32

/-- Whether an id stands for an operator: it lies from 1000 to 1004. -/
def oper (w : BitVec 32) : BitVec 1 :=
  IntOp.andi (IntOp.cmpi .sge (idOf w) 1000#32) (IntOp.cmpi .slt (idOf w) 1005#32)

/-- The least position with a set flag, 4096 when there is none. -/
def leastPos (f : Fin 4096 → BitVec 1) : BitVec 32 :=
  Finset.univ.fold IntOp.minsi 2147483647#32 fun k : Fin 4096 => Scalar.select (f k) (BitVec.ofNat 32 k.val) 4096#32

/-- The least position with a set flag, 0 when there is none. -/
def firstPos (f : Fin 4096 → BitVec 1) : BitVec 32 :=
  Scalar.select (IntOp.cmpi .slt (leastPos f) 4096#32) (leastPos f) 0#32

/-- The position of a row's first operator. -/
def opPos (r : Row) : BitVec 32 := firstPos fun k => oper (r k)

/-- Multiplying by 6554 and dropping sixteen bits divides a number below 1000 by ten. -/
theorem div_ten (n : ℕ) (h : n < 1000) :
    IntOp.shrui .vector (IntOp.muli (BitVec.ofNat 32 n) 6554#32) 16#32 = BitVec.ofNat 32 (n / 10) := by
  have h1 : IntOp.muli (BitVec.ofNat 32 n) 6554#32 = BitVec.ofNat 32 (n * 6554) := by
    apply BitVec.eq_of_toNat_eq
    simp only [IntOp.muli, BitVec.toNat_mul, BitVec.toNat_ofNat]
    omega
  rw [h1]
  apply BitVec.eq_of_toNat_eq
  unfold IntOp.shrui
  rw [if_pos (by decide)]
  simp only [BitVec.ushiftRight_eq', BitVec.toNat_ushiftRight, BitVec.toNat_ofNat, Nat.shiftRight_eq_div_pow]
  rw [show (2 : ℕ) ^ (16 % 2 ^ 32) = 65536 from rfl, Nat.mod_eq_of_lt (by omega : n * 6554 < 2 ^ 32),
    Nat.mod_eq_of_lt (by omega : n / 10 < 2 ^ 32)]
  omega

/-- The remainder of a number below 1000 on division by ten. -/
theorem rem_ten (n : ℕ) (h : n < 1000) :
    IntOp.subi (BitVec.ofNat 32 n) (IntOp.muli 10#32 (IntOp.shrui .vector (IntOp.muli (BitVec.ofNat 32 n) 6554#32) 16#32))
      = BitVec.ofNat 32 (n % 10) := by
  rw [div_ten n h]
  apply BitVec.eq_of_toNat_eq
  simp only [IntOp.muli, IntOp.subi, BitVec.toNat_sub, BitVec.toNat_mul, BitVec.toNat_ofNat]
  omega

/-- The held id lies between 0 and 49999. -/
theorem idOf_bounds (w : BitVec 32) : 0 ≤ (idOf w).toInt ∧ (idOf w).toInt ≤ 49999 := by
  unfold idOf IntOp.minsi IntOp.maxsi
  simp only [BitVec.slt_iff_toInt_lt]
  split <;> split <;> (simp at *; try omega)

/-- The held id, as a number. -/
theorem idOf_lt (w : BitVec 32) : (idOf w).toNat < 50000 ∧ (idOf w).toInt = (idOf w).toNat := by
  have h := idOf_bounds w
  have := (idOf w).isLt
  rw [BitVec.toInt_eq_toNat_cond] at h ⊢
  split at h <;> constructor <;> simp_all <;> omega

/-- A digit, as the table of digits has it. -/
theorem digit_eq (w : BitVec 32) :
    digit w = if (idOf w).toNat < 1000 then BitVec.ofNat 32 ((idOf w).toNat % 10) else 4294967295#32 := by
  obtain ⟨h1, h2⟩ := idOf_lt w
  have hc : (IntOp.cmpi .slt (idOf w) 1000#32 = 1) ↔ (idOf w).toNat < 1000 := by
    simp only [IntOp.cmpi, BitVec.slt_eq_decide, h2]
    by_cases h : (idOf w).toNat < 1000
    · simp [h]
    · simp [h]
  unfold digit Scalar.select
  by_cases h : (idOf w).toNat < 1000
  · rw [if_pos (hc.2 h), if_pos h]
    have e : idOf w = BitVec.ofNat 32 (idOf w).toNat := by simp
    rw [← rem_ten _ h, ← e]
    simp only [IntOp.muli, IntOp.subi, BitVec.mul_comm]
  · rw [if_neg (fun e => h (hc.1 e)), if_neg h]

/-- An operator flag, as the table of operators has it. -/
theorem oper_eq (w : BitVec 32) : oper w = BitVec.ofBool (decide (1000 ≤ (idOf w).toNat ∧ (idOf w).toNat < 1005)) := by
  obtain ⟨h1, h2⟩ := idOf_lt w
  simp only [oper, IntOp.andi, IntOp.cmpi, BitVec.slt_eq_decide, BitVec.sle_eq_decide, h2]
  by_cases ha : 1000 ≤ (idOf w).toNat <;> by_cases hb : (idOf w).toNat < 1005 <;> simp [ha, hb] <;> omega

/-- Where the number before position `p` starts: one past the last position before `p` without a digit. -/
def start (d : Row) (p : BitVec 32) : BitVec 32 :=
  Finset.univ.fold IntOp.maxsi 2147483648#32 fun k : Fin 4096 =>
    Scalar.select (IntOp.andi (IntOp.cmpi .slt (d k) 0#32) (IntOp.cmpi .slt (BitVec.ofNat 32 k.val) p))
      (IntOp.addi (BitVec.ofNat 32 k.val) 1#32) 0#32

/-- Where the number after position `p` ends: one before the first position after `p` without a digit. -/
def stop (d : Row) (p : BitVec 32) : BitVec 32 :=
  IntOp.subi (leastPos fun k => IntOp.andi (IntOp.cmpi .slt (d k) 0#32) (IntOp.cmpi .sgt (BitVec.ofNat 32 k.val) p)) 1#32

/-- A position held between 0 and 4095. -/
def clip (q : BitVec 32) : BitVec 32 := IntOp.minsi 4095#32 (IntOp.maxsi 0#32 q)

/-- The held position lies between 0 and 4095. -/
theorem clip_bounds (q : BitVec 32) : 0 ≤ (clip q).toInt ∧ (clip q).toInt ≤ 4095 := by
  unfold clip IntOp.minsi IntOp.maxsi
  simp only [BitVec.slt_iff_toInt_lt]
  split <;> split <;> (simp at *; try omega)

/-- The held position, as a number, lies in the row. -/
theorem clip_lt (q : BitVec 32) : (clip q).toNat < 4096 := by
  have h := clip_bounds q
  rw [BitVec.toInt_eq_toNat_cond] at h
  have := (clip q).isLt
  split at h <;> omega

/-- The row at a held position. -/
def at' (d : Row) (q : BitVec 32) : BitVec 32 := d ⟨(clip q).toNat, clip_lt q⟩

/-- The position of the first number's digit `k`. -/
def placeA (p k : BitVec 32) : BitVec 32 := IntOp.subi (IntOp.subi p 1#32) k

/-- The digit `k` of the number before position `p`, 0 past its first digit. -/
def takeA (d : Row) (p k : BitVec 32) : BitVec 32 :=
  Scalar.select (IntOp.cmpi .sge (placeA p k) (start d p)) (at' d (placeA p k)) 0#32

/-- The position of the second number's digit `k`. -/
def placeB (d : Row) (p k : BitVec 32) : BitVec 32 := IntOp.subi (stop d p) k

/-- The digit `k` of the number after position `p`, 0 past its first digit. -/
def takeB (d : Row) (p k : BitVec 32) : BitVec 32 :=
  Scalar.select (IntOp.cmpi .sgt (placeB d p k) p) (at' d (placeB d p k)) 0#32

/-- The digit `k` of the number before a row's first operator. -/
def digitA (r : Row) (k : BitVec 32) : BitVec 32 := takeA (fun i => digit (r i)) (opPos r) k

/-- The digit `k` of the number after a row's first operator. -/
def digitB (r : Row) (k : BitVec 32) : BitVec 32 := takeB (fun i => digit (r i)) (opPos r) k

/-- The word 0 converts to the number 0. -/
theorem sitofp_zero : (FloatOps.sitofp (F := Ideal) .f32 0#32) = (0 : EReal) := by
  show (((0#32 : BitVec 32).toInt : ℝ) : EReal) = 0
  simp

/-- Adding up a row's digits over the positions equal to a held position leaves the digit there. -/
theorem sum_pick (d : Row) (q : BitVec 32) :
    (∑ i : Fin 4096, Scalar.select (IntOp.cmpi .eq (BitVec.ofNat 32 i.val) (clip q)) (FloatOps.sitofp (F := Ideal) .f32 (d i)) (0 : EReal))
      = FloatOps.sitofp (F := Ideal) .f32 (at' d q) := by
  rw [Finset.sum_eq_single (⟨(clip q).toNat, clip_lt q⟩ : Fin 4096)]
  · simp [Scalar.select, IntOp.cmpi, at']
  · intro i _ hi
    have : ¬ (BitVec.ofNat 32 i.val = clip q) := by
      intro h
      apply hi
      have h' := congrArg BitVec.toNat h
      rw [BitVec.toNat_ofNat] at h'
      apply Fin.ext
      show i.val = (clip q).toNat
      omega
    have hb : (BitVec.ofNat 32 i.val == clip q) = false := by simpa using this
    simp [Scalar.select, IntOp.cmpi, hb]
  · simp

/-- A choice between digits, converted, is the choice between the converted digits. -/
theorem sitofp_select (c : BitVec 1) (x : BitVec 32) :
    (FloatOps.sitofp (F := Ideal) .f32 (Scalar.select c x 0#32) : EReal) = Scalar.select c (FloatOps.sitofp (F := Ideal) .f32 x) (0 : EReal) := by
  unfold Scalar.select
  split
  · rfl
  · exact sitofp_zero

end Cert.Spec
-- ==== Proof.BlockOne.lean ====
/-
  What the first kernel region computes: from the 16 rows of ids it fills two arrays of 16 rows by 640 lanes, the ten digits of a
  row's first number and of its second number, each repeated over the lanes. `band` is one digit's step over the lanes; the stored
  values are ten such steps over one another, so a lane holds the digit its number leaves when divided by ten.
-/
module

public import proofs.«01_k».proof.Proof.Gen.KernelIdeal.Frame
public import proofs.«01_k».proof.Proof.Spec
public import Idealize.ShloMosaic.Lib.Pipeline.ValueKit
public import Idealize.ShloMosaic.Lib.Tactic.WordOmega

@[expose] public section

noncomputable section

namespace Cert.KernelIdeal.Value

open Cert.KernelIdeal Cert.KernelIdeal.Gen Idealize.ShloMosaic

/-- A row of the ids. -/
def row (x : IVec S16x4096 32) (b : Fin 16) : Spec.Row := fun k => x (ix2 b k)

/-- One digit's step: on the lanes whose remainder is `w`, the digit at position `q` of each row where the flag `g` is set and 0
    where it is not; on the other lanes, what was there. -/
def band (w : BitVec 32) (q : IVec S16x1 32) (g : IVec S16x1 1) (v1 : IVec S16x4096 32) (v50 : FVec Ideal S16x4096 .f32)
    (v58 : IVec S16x640 32) (acc : FVec Ideal S16x640 .f32) : FVec Ideal S16x640 .f32 :=
  select (cmpi .eq v58 (broadcast S16x640 w))
    (broadcastTo S16x640 (shapeCast S16x1 (select g
      (shapeCast S16x1 (multiReduction .add [1] S16
        (select (cmpi .eq v1 (broadcastTo S16x4096
            (minsi (broadcast S16x1 4095#32) (maxsi (broadcast S16x1 0#32) q)) broadcasts_S16x1_S16x4096))
          v50 (broadcast S16x4096 (Scalar.ofBits .f32 0x00000000#32)))
        0x00000000#32 reduces_S16x4096_S16 (.inl rfl) rfl) shapeCasts_S16_S16x1)
      (broadcast S16x1 (Scalar.ofBits .f32 0x00000000#32))) shapeCasts_S16x1_S16x1) broadcasts_S16x1_S16x640) acc

/-- A step at a lane. -/
theorem band_apply (w : BitVec 32) (q : IVec S16x1 32) (g : IVec S16x1 1) (d : IVec S16x4096 32)
    (v58 : IVec S16x640 32) (acc : FVec Ideal S16x640 .f32) (b : Fin 16) (l : Fin 640) :
    band w q g (iota .tc S16x4096 32 [1] iota_S16x4096_d1_w32) (sitofp .f32 d) v58 acc (ix2 b l)
      = Scalar.select (IntOp.cmpi .eq (v58 (ix2 b l)) w)
          (FloatOps.sitofp (F := Ideal) .f32 (Scalar.select (g (ix2 b 0)) (Spec.at' (row d b) (q (ix2 b 0))) 0#32)) (acc (ix2 b l)) := by
  rw [Spec.sitofp_select, ← Spec.sum_pick]
  pointwise [band]
  rfl

/-- The first number's step for digit `w`. -/
def bandA (w : BitVec 32) (v31 v40 : IVec S16x1 32) (v1 : IVec S16x4096 32) (v50 : FVec Ideal S16x4096 .f32) (v58 : IVec S16x640 32)
    (acc : FVec Ideal S16x640 .f32) : FVec Ideal S16x640 .f32 :=
  band w (subi (subi v31 (broadcast S16x1 1#32)) (broadcast S16x1 w))
    (cmpi .sge (subi (subi v31 (broadcast S16x1 1#32)) (broadcast S16x1 w)) v40) v1 v50 v58 acc

/-- The second number's step for digit `w`. -/
def bandB (w : BitVec 32) (v31 v49 : IVec S16x1 32) (v1 : IVec S16x4096 32) (v50 : FVec Ideal S16x4096 .f32) (v58 : IVec S16x640 32)
    (acc : FVec Ideal S16x640 .f32) : FVec Ideal S16x640 .f32 :=
  band w (subi v49 (broadcast S16x1 w)) (cmpi .sgt (subi v49 (broadcast S16x1 w)) v31) v1 v50 v58 acc

/-- Ten steps, over zero. -/
def tenBands (f : BitVec 32 → FVec Ideal S16x640 .f32 → FVec Ideal S16x640 .f32) : FVec Ideal S16x640 .f32 :=
  f 9#32 (f 8#32 (f 7#32 (f 6#32 (f 5#32 (f 4#32 (f 3#32 (f 2#32 (f 1#32 (f 0#32
    (broadcast S16x640 (Scalar.ofBits .f32 0x00000000#32)))))))))))

/-- A lane whose remainder is below ten holds its digit's value after the ten steps. -/
theorem tenBands_apply (f : BitVec 32 → FVec Ideal S16x640 .f32 → FVec Ideal S16x640 .f32) (b : Fin 16) (l : Fin 640)
    (z : BitVec 32 → EReal) (k : BitVec 32) (hk : k.toNat < 10)
    (hf : ∀ w acc, f w acc (ix2 b l) = Scalar.select (IntOp.cmpi .eq k w) (z w) (acc (ix2 b l))) :
    tenBands f (ix2 b l) = z k := by
  unfold tenBands
  simp only [hf]
  obtain ⟨n, hn, rfl⟩ : ∃ n : ℕ, n < 10 ∧ k = BitVec.ofNat 32 n := ⟨k.toNat, hk, by simp⟩
  interval_cases n <;> simp [Scalar.select, IntOp.cmpi]

/-- The digit of an id, at every position. -/
theorem pay2_apply (x : IVec S16x4096 32) (b : Fin 16) (i : Fin 4096) : k0_pay2 (F := Ideal) x (ix2 b i) = Spec.digit (row x b i) := by
  pointwise [k0_pay2, k0_pay1]
  rfl

/-- A row of digits is the digits of the row. -/
theorem row_pay2 (x : IVec S16x4096 32) (b : Fin 16) : row (k0_pay2 (F := Ideal) x) b = fun i => Spec.digit (row x b i) :=
  funext fun i => pay2_apply x b i

/-- Which positions hold no digit. -/
theorem pay3_apply (x : IVec S16x4096 32) (b : Fin 16) (i : Fin 4096) :
    k0_pay3 (F := Ideal) x (ix2 b i) = IntOp.cmpi .slt (Spec.digit (row x b i)) 0#32 := by
  rw [← pay2_apply]
  pointwise [k0_pay3]

/-- The first operator's position, by row. -/
theorem pay4_apply (x : IVec S16x4096 32) (b : Fin 16) : k0_pay4 (F := Ideal) x (ix2 b 0) = Spec.opPos (row x b) := by
  pointwise [k0_pay4, k0_pay1]
  rfl

/-- The first number's start, by row. -/
theorem pay5_apply (x : IVec S16x4096 32) (b : Fin 16) :
    k0_pay5 (F := Ideal) x (ix2 b 0) = Spec.start (fun i => Spec.digit (row x b i)) (Spec.opPos (row x b)) := by
  pointwise [k0_pay5]
  simp only [pay3_apply, pay4_apply]
  rfl

/-- The second number's end, by row. -/
theorem pay6_apply (x : IVec S16x4096 32) (b : Fin 16) :
    k0_pay6 (iota .tc S16x4096 32 [1] iota_S16x4096_d1_w32) (k0_pay3 (F := Ideal) x) (k0_pay4 (F := Ideal) x) (ix2 b 0)
      = Spec.stop (fun i => Spec.digit (row x b i)) (Spec.opPos (row x b)) := by
  pointwise [k0_pay6]
  simp only [pay3_apply, pay4_apply]
  rfl

/-- A lane's remainder on division by ten. -/
theorem pay8_apply (b : Fin 16) (l : Fin 640) : k0_pay8 (ix2 b l) = BitVec.ofNat 32 (l.val % 10) := by
  pointwise [k0_pay8]
  have h := l.isLt
  exact Spec.rem_ten l.val (by omega)

set_option maxRecDepth 8192 in
/-- The first array's stored value is ten steps. -/
theorem out0_1_eq (x : Vec Ideal S16x4096 .i32) : out0_1 x
    = tenBands fun w acc => bandA w (k0_pay4 (F := Ideal) x) (k0_pay5 (F := Ideal) x) (iota .tc S16x4096 32 [1] iota_S16x4096_d1_w32)
        (sitofp .f32 (k0_pay2 (F := Ideal) x)) k0_pay8 acc := by
  unfold out0_1
  rw [View.canon_unit_zero (by decide)]
  have hld : View.ld x r0_0 = x := View.ld_unit_zero (by decide) _ _
  unfold k0_pay54 k0_pay53 k0_pay51 k0_pay50 k0_pay49 k0_pay48
  rw [hld]
  rfl

set_option maxRecDepth 8192 in
/-- The second array's stored value is ten steps. -/
theorem out0_2_eq (x : Vec Ideal S16x4096 .i32) : out0_2 x
    = tenBands fun w acc => bandB w (k0_pay4 (F := Ideal) x)
        (k0_pay6 (iota .tc S16x4096 32 [1] iota_S16x4096_d1_w32) (k0_pay3 (F := Ideal) x) (k0_pay4 (F := Ideal) x))
        (iota .tc S16x4096 32 [1] iota_S16x4096_d1_w32) (sitofp .f32 (k0_pay2 (F := Ideal) x)) k0_pay8 acc := by
  unfold out0_2
  rw [View.canon_unit_zero (by decide)]
  have hld : View.ld x r0_0 = x := View.ld_unit_zero (by decide) _ _
  unfold k0_pay54 k0_pay53 k0_pay52 k0_pay50 k0_pay49 k0_pay48
  rw [hld]
  rfl

/-- The first array at a lane: the first number's digit with the lane's remainder. -/
theorem out0_1_apply (x : Vec Ideal S16x4096 .i32) (b : Fin 16) (l : Fin 640) :
    out0_1 x (ix2 b l) = FloatOps.sitofp (F := Ideal) .f32 (Spec.digitA (row x b) (BitVec.ofNat 32 (l.val % 10))) := by
  rw [out0_1_eq]
  refine tenBands_apply _ b l (fun w => FloatOps.sitofp (F := Ideal) .f32 (Spec.digitA (row x b) w)) (BitVec.ofNat 32 (l.val % 10))
    (by rw [BitVec.toNat_ofNat]; omega) fun w acc => ?_
  simp only [bandA]
  rw [band_apply, pay8_apply, row_pay2]
  pointwise []
  rw [pay4_apply, pay5_apply]
  rfl

/-- The second array at a lane: the second number's digit with the lane's remainder. -/
theorem out0_2_apply (x : Vec Ideal S16x4096 .i32) (b : Fin 16) (l : Fin 640) :
    out0_2 x (ix2 b l) = FloatOps.sitofp (F := Ideal) .f32 (Spec.digitB (row x b) (BitVec.ofNat 32 (l.val % 10))) := by
  rw [out0_2_eq]
  refine tenBands_apply _ b l (fun w => FloatOps.sitofp (F := Ideal) .f32 (Spec.digitB (row x b) w)) (BitVec.ofNat 32 (l.val % 10))
    (by rw [BitVec.toNat_ofNat]; omega) fun w acc => ?_
  simp only [bandB]
  rw [band_apply, pay8_apply, row_pay2]
  pointwise []
  rw [pay6_apply, pay4_apply]
  rfl

end Cert.KernelIdeal.Value

end
-- ==== Proof.BlockTwo.lean ====
/-
  What the second kernel region computes: at grid point `i` it stores row `i` of the 16 rows of 640 lanes, repeated 64 times, into
  each of its output blocks; the first and third output from the first array of digits, the second and fourth from the second.
-/
module

public import proofs.«01_k».proof.Proof.Gen.KernelIdeal.Frame
public import Idealize.ShloMosaic.Lib.Pointwise
public import Idealize.ShloMosaic.Lib.Pipeline.ValueKit

@[expose] public section

noncomputable section

namespace Cert.KernelIdeal.Value

open Cert.KernelIdeal Cert.KernelIdeal.Gen Idealize.ShloMosaic Idealize.ShloMosaic.TcCoe

variable {F : FTy → Type} [FloatOps F]

/-- A row of 640 lanes repeated over 64 rows. -/
theorem pay1_apply (v : Vec F S1x640 .f32) (r : Fin 64) (l : Fin 640) : k1_pay1 v (ix3 0 r l) = v (ix2 0 l) := by
  pointwise [k1_pay1]

/-- The second store repeats its row as the first does. -/
theorem pay2_eq (v : Vec F S1x640 .f32) : k1_pay2 v = k1_pay1 v := rfl

/-- The row of a point. -/
theorem off_row (i : grid1.Coords) : k1_off1 i = ![(i 0).val, 0] := by
  have h : (i 0).val < 16 := (i 0).isLt
  unfold k1_off1
  simp only [Scalar.indexCast]
  congr 1
  simp
  omega

/-- The row loaded at a point, at a lane. -/
theorem ld_row (i : grid1.Coords) (x : Vec F S16x640 .f32) (l : Fin 640) (b : Fin 16) (hb : b.val = (i 0).val) :
    View.ld x (Rect.unit (s := S16x640) (k1_off1 i) S1x640.size (k1_off1_inb i)) (ix2 0 l) = x (ix2 b l) := by
  apply View.ld_unit_apply_of
  have h0 : k1_off1 i 0 = (i 0).val := congrFun (off_row i) 0
  have h1 : k1_off1 i 1 = 0 := congrFun (off_row i) 1
  intro a
  match a with
  | ⟨0, _⟩ => exact hb.trans h0.symm
  | ⟨1, _⟩ => exact (Nat.zero_add _).symm.trans (congrArg (· + _) h1.symm)

/-- The first output's block at a point. -/
theorem out1_2 (c : Dev nD) (i : grid1.Coords) (arg1 : Memref sig .tc .vmem S16x640 .f32) (harg1 : arg1.IsWhole) (arg2 : Memref sig .tc .vmem S16x640 .f32) (harg2 : arg2.IsWhole) (arg3 : Memref sig .tc .vmem S1x64x640 .f32) (harg3 : arg3.IsWhole) (arg4 : Memref sig .tc .vmem S1x64x640 .f32) (harg4 : arg4.IsWhole) (arg5 : Memref sig .tc .vmem S1x64x640 .f32) (harg5 : arg5.IsWhole) (arg6 : Memref sig .tc .vmem S1x64x640 .f32) (harg6 : arg6.IsWhole)
    (x0 x1 : Vec F S16x640 .f32) :
    out1_A_2 c i arg1 harg1 arg2 harg2 arg3 harg3 arg4 harg4 arg5 harg5 arg6 harg6 x0 x1
      = k1_pay1 (View.ld x0 (Rect.unit (s := S16x640) (k1_off1 i) S1x640.size (k1_off1_inb i))) := by
  unfold out1_A_2
  rw [View.read_writes_eq_canon _ _ _ (cover1_A_2 c i arg1 harg1 arg2 harg2 arg3 harg3 arg4 harg4 arg5 harg5 arg6 harg6 x0 x1)]
  unfold kernelRun1_A
  dsimp only
  sl_unfold_words
  rw [View.canon_unit_zero (by decide)]
  simp only [View.readAt_eq_ld, harg1.read_unread]

/-- The second output's block at a point. -/
theorem out1_3 (c : Dev nD) (i : grid1.Coords) (arg1 : Memref sig .tc .vmem S16x640 .f32) (harg1 : arg1.IsWhole) (arg2 : Memref sig .tc .vmem S16x640 .f32) (harg2 : arg2.IsWhole) (arg3 : Memref sig .tc .vmem S1x64x640 .f32) (harg3 : arg3.IsWhole) (arg4 : Memref sig .tc .vmem S1x64x640 .f32) (harg4 : arg4.IsWhole) (arg5 : Memref sig .tc .vmem S1x64x640 .f32) (harg5 : arg5.IsWhole) (arg6 : Memref sig .tc .vmem S1x64x640 .f32) (harg6 : arg6.IsWhole)
    (x0 x1 : Vec F S16x640 .f32) :
    out1_A_3 c i arg1 harg1 arg2 harg2 arg3 harg3 arg4 harg4 arg5 harg5 arg6 harg6 x0 x1
      = k1_pay1 (View.ld x1 (Rect.unit (s := S16x640) (k1_off1 i) S1x640.size (k1_off1_inb i))) := by
  unfold out1_A_3
  rw [View.read_writes_eq_canon _ _ _ (cover1_A_3 c i arg1 harg1 arg2 harg2 arg3 harg3 arg4 harg4 arg5 harg5 arg6 harg6 x0 x1)]
  unfold kernelRun1_A
  dsimp only
  sl_unfold_words
  rw [View.canon_unit_zero (by decide), pay2_eq]
  simp only [View.readAt_eq_ld, harg2.read_unread]

/-- The third output's block at a point. -/
theorem out1_4 (c : Dev nD) (i : grid1.Coords) (arg1 : Memref sig .tc .vmem S16x640 .f32) (harg1 : arg1.IsWhole) (arg2 : Memref sig .tc .vmem S16x640 .f32) (harg2 : arg2.IsWhole) (arg3 : Memref sig .tc .vmem S1x64x640 .f32) (harg3 : arg3.IsWhole) (arg4 : Memref sig .tc .vmem S1x64x640 .f32) (harg4 : arg4.IsWhole) (arg5 : Memref sig .tc .vmem S1x64x640 .f32) (harg5 : arg5.IsWhole) (arg6 : Memref sig .tc .vmem S1x64x640 .f32) (harg6 : arg6.IsWhole)
    (x0 x1 : Vec F S16x640 .f32) :
    out1_A_4 c i arg1 harg1 arg2 harg2 arg3 harg3 arg4 harg4 arg5 harg5 arg6 harg6 x0 x1
      = k1_pay1 (View.ld x0 (Rect.unit (s := S16x640) (k1_off1 i) S1x640.size (k1_off1_inb i))) := by
  unfold out1_A_4
  rw [View.read_writes_eq_canon _ _ _ (cover1_A_4 c i arg1 harg1 arg2 harg2 arg3 harg3 arg4 harg4 arg5 harg5 arg6 harg6 x0 x1)]
  unfold kernelRun1_A
  dsimp only
  sl_unfold_words
  rw [View.canon_unit_zero (by decide)]
  simp only [View.readAt_eq_ld, harg1.read_unread]

/-- The fourth output's block at a point. -/
theorem out1_5 (c : Dev nD) (i : grid1.Coords) (arg1 : Memref sig .tc .vmem S16x640 .f32) (harg1 : arg1.IsWhole) (arg2 : Memref sig .tc .vmem S16x640 .f32) (harg2 : arg2.IsWhole) (arg3 : Memref sig .tc .vmem S1x64x640 .f32) (harg3 : arg3.IsWhole) (arg4 : Memref sig .tc .vmem S1x64x640 .f32) (harg4 : arg4.IsWhole) (arg5 : Memref sig .tc .vmem S1x64x640 .f32) (harg5 : arg5.IsWhole) (arg6 : Memref sig .tc .vmem S1x64x640 .f32) (harg6 : arg6.IsWhole)
    (x0 x1 : Vec F S16x640 .f32) :
    out1_A_5 c i arg1 harg1 arg2 harg2 arg3 harg3 arg4 harg4 arg5 harg5 arg6 harg6 x0 x1
      = k1_pay1 (View.ld x1 (Rect.unit (s := S16x640) (k1_off1 i) S1x640.size (k1_off1_inb i))) := by
  unfold out1_A_5
  rw [View.read_writes_eq_canon _ _ _ (cover1_A_5 c i arg1 harg1 arg2 harg2 arg3 harg3 arg4 harg4 arg5 harg5 arg6 harg6 x0 x1)]
  unfold kernelRun1_A
  dsimp only
  sl_unfold_words
  rw [View.canon_unit_zero (by decide), pay2_eq]
  simp only [View.readAt_eq_ld, harg2.read_unread]

end Cert.KernelIdeal.Value

end
-- ==== Proof.Arrays.lean ====
/-
  What the kernel's arrays hold at the end of the run. The first region leaves its two arrays of digits; the second copies row `b`
  of an array over the 64 rows of block `b` of its outputs; the reshapes read those as 4096 rows of ten, so that position `s`,
  digit `k` is a lane whose remainder on division by ten is `k`.
-/
module

public import proofs.«01_k».proof.Proof.BlockOne
public import proofs.«01_k».proof.Proof.BlockTwo
public import Idealize.ShloMosaic.Lib.StableHlo.RunRead

@[expose] public section

noncomputable section

namespace Cert.KernelIdeal.Value

open Cert.KernelIdeal Cert.KernelIdeal.Gen Idealize.ShloMosaic Idealize.ShloMosaic.TcCoe

section Regions

variable {F : FTy → Type} [FloatOps F]
variable (V : (c : Dev nD) → (b : Ref sig .tc) → Buf (Elt F) ((c : Thread nD τ).loc b))

/-- The first region reads the ids whole. -/
theorem ids0 (c : Dev nD) (t : Fin cfg0.N) : iblk0 V c 0 t = V c main_arg1 := by
  funext x
  blk_simp [iblk0]
  congr 1
  have e : ∀ t : Fin cfg0.N, win0_0.index t = ![0, 0] := (by decide +kernel : ∀ t : Fin grid0.N, _)
  blk_ext [e]

/-- The first region's first array. -/
theorem arr0_1 (c : Dev nD) : (dat0 V c).arrAt 1 cfg0.N = out0_1 (V c main_arg1) := by
  refine (dat0 V c).arrAt_eq_of_covers 1 _ (by decide +kernel) fun t hf y => ?_
  blk_simp
  rw [after0_1, ids0]
  congr 1
  have e : ∀ t : Fin cfg0.N, win0_1.index t = ![0, 0] := (by decide +kernel : ∀ t : Fin grid0.N, _)
  blk_ext [e]

/-- The first region's second array. -/
theorem arr0_2 (c : Dev nD) : (dat0 V c).arrAt 2 cfg0.N = out0_2 (V c main_arg1) := by
  refine (dat0 V c).arrAt_eq_of_covers 2 _ (by decide +kernel) fun t hf y => ?_
  blk_simp
  rw [after0_2, ids0]
  congr 1
  have e : ∀ t : Fin cfg0.N, win0_2.index t = ![0, 0] := (by decide +kernel : ∀ t : Fin grid0.N, _)
  blk_ext [e]

/-- Row `b` of 640 lanes over the 64 rows of block `b`. -/
def spread (p : Vec F S16x640 .f32) : Vec F S16x64x640 .f32 := fun i => p (ix2 (i 0) (i 2))

/-- The second region reads its first array whole. -/
theorem digits0 (c : Dev nD) (t : Fin cfg1.N) : iblk1 V c 0 t = V c main_v0_0 := by
  funext x
  blk_simp [iblk1]
  congr 1
  have e : ∀ t : Fin cfg1.N, win1_0.index t = ![0, 0] := (by decide +kernel : ∀ t : Fin grid1.N, _)
  blk_ext [e]

/-- The second region reads its second array whole. -/
theorem digits1 (c : Dev nD) (t : Fin cfg1.N) : iblk1 V c 1 t = V c main_v0_1 := by
  funext x
  blk_simp [iblk1]
  congr 1
  have e : ∀ t : Fin cfg1.N, win1_1.index t = ![0, 0] := (by decide +kernel : ∀ t : Fin grid1.N, _)
  blk_ext [e]

/-- A point's block, at an index of the array it lies in. -/
theorem block_row (t : Fin cfg1.N) (p : Vec F S16x640 .f32) (y : S1x64x640.Idx) (i : S16x64x640.Idx)
    (h0 : (i 0).val = (grid1.coords t 0).val) (h2 : (i 2).val = (y 2).val) :
    k1_pay1 (View.ld p (Rect.unit (s := S16x640) (k1_off1 (grid1.coords t)) S1x640.size (k1_off1_inb (grid1.coords t)))) y
      = spread p i := by
  have hy : y = ix3 0 (y 1) (y 2) := by
    funext a
    match a with
    | ⟨0, _⟩ => exact Fin.ext (by have := (y 0).isLt; simpa using this)
    | ⟨1, _⟩ => rfl
    | ⟨2, _⟩ => rfl
  rw [hy]
  refine (pay1_apply _ (y 1) (y 2)).trans ((ld_row _ p (y 2) (i 0) h0).trans ?_)
  unfold spread
  congr 1
  have : y 2 = i 2 := Fin.ext h2.symm
  rw [this]

/-- The second region's first output. -/
theorem arr1_2 (c : Dev nD) : (dat1 V c).arrAt 2 cfg1.N = spread (V c main_v0_0) := by
  refine (dat1 V c).arrAt_eq_of_covers 2 _ (by decide +kernel) fun t hf y => ?_
  blk_simp
  rw [after1_2]
  unfold outsAt1
  dsimp only
  rw [out1_2, digits0]
  have e : ∀ t : Fin cfg1.N, win1_2.index t = ![(grid1.coords t 0).val, 0, 0] := (by decide +kernel : ∀ t : Fin grid1.N, _)
  apply block_row
  · blk_simp [e]
  · blk_simp [e]

/-- The second region's second output. -/
theorem arr1_3 (c : Dev nD) : (dat1 V c).arrAt 3 cfg1.N = spread (V c main_v0_1) := by
  refine (dat1 V c).arrAt_eq_of_covers 3 _ (by decide +kernel) fun t hf y => ?_
  blk_simp
  rw [after1_3]
  unfold outsAt1
  dsimp only
  rw [out1_3, digits1]
  have e : ∀ t : Fin cfg1.N, win1_3.index t = ![(grid1.coords t 0).val, 0, 0] := (by decide +kernel : ∀ t : Fin grid1.N, _)
  apply block_row
  · blk_simp [e]
  · blk_simp [e]

/-- The second region's third output. -/
theorem arr1_4 (c : Dev nD) : (dat1 V c).arrAt 4 cfg1.N = spread (V c main_v0_0) := by
  refine (dat1 V c).arrAt_eq_of_covers 4 _ (by decide +kernel) fun t hf y => ?_
  blk_simp
  rw [after1_4]
  unfold outsAt1
  dsimp only
  rw [out1_4, digits0]
  have e : ∀ t : Fin cfg1.N, win1_4.index t = ![(grid1.coords t 0).val, 0, 0] := (by decide +kernel : ∀ t : Fin grid1.N, _)
  apply block_row
  · blk_simp [e]
  · blk_simp [e]

/-- The second region's fourth output. -/
theorem arr1_5 (c : Dev nD) : (dat1 V c).arrAt 5 cfg1.N = spread (V c main_v0_1) := by
  refine (dat1 V c).arrAt_eq_of_covers 5 _ (by decide +kernel) fun t hf y => ?_
  blk_simp
  rw [after1_5]
  unfold outsAt1
  dsimp only
  rw [out1_5, digits1]
  have e : ∀ t : Fin cfg1.N, win1_5.index t = ![(grid1.coords t 0).val, 0, 0] := (by decide +kernel : ∀ t : Fin grid1.N, _)
  apply block_row
  · blk_simp [e]
  · blk_simp [e]

end Regions

variable {F : FTy → Type} [FloatOps F]
variable (m : (ℓ : Loc nD τ sig) → Buf (Elt F) ℓ) (ρ : Dev nD → PrngReg)

/-- The first array of digits, when the second region starts. -/
theorem digitsA_at (c : Dev nD) : V1 m ρ c main_v0_0 = out0_1 (m ((c : Thread nD τ).loc main_arg1)) :=
  (W1_arr m ρ c 1).trans (arr0_1 (V0 m ρ) c)

/-- The second array of digits, when the second region starts. -/
theorem digitsB_at (c : Dev nD) : V1 m ρ c main_v0_1 = out0_2 (m ((c : Thread nD τ).loc main_arg1)) :=
  (W1_arr m ρ c 2).trans (arr0_2 (V0 m ρ) c)

/-- A spread array read as 4096 rows of ten. -/
def lay (p : Vec F S16x640 .f32) : Vec F S16x4096x10 .f32 :=
  shapeCast S16x4096x10 (spread p) shapeCasts_S16x64x640_S16x4096x10

/-- The lane that holds position `s`, digit `k`. -/
theorem lay_apply (p : Vec F S16x640 .f32) (b : Fin 16) (s : Fin 4096) (k : Fin 10) :
    lay p (ix3 b s k) = p (ix2 b ⟨(s.val * 10 + k.val) % 640, Nat.mod_lt _ (by decide)⟩) := by
  have hs := s.isLt
  have hk := k.isLt
  refine (shapeCast_apply (spread p) shapeCasts_S16x64x640_S16x4096x10 (ix3 b s k)
    (ix3 b ⟨(s.val * 10 + k.val) / 640, by omega⟩ ⟨(s.val * 10 + k.val) % 640, Nat.mod_lt _ (by decide)⟩) ?_).trans rfl
  rw [Shape.rowMajor_val_three, Shape.rowMajor_val_three]
  show (b.val * 64 + (s.val * 10 + k.val) / 640) * 640 + (s.val * 10 + k.val) % 640 = (b.val * 4096 + s.val) * 10 + k.val
  omega

/-- The four results at the end of the run. -/
theorem results (c : Dev nD) :
    W3 m ρ c (Proc.devRef .tc main_v2) = lay (out0_1 (m ((c : Thread nD τ).loc main_arg1)))
    ∧ W3 m ρ c (Proc.devRef .tc main_v3) = lay (out0_2 (m ((c : Thread nD τ).loc main_arg1)))
    ∧ W3 m ρ c (Proc.devRef .tc main_v4) = lay (out0_1 (m ((c : Thread nD τ).loc main_arg1)))
    ∧ W3 m ρ c (Proc.devRef .tc main_v5) = lay (out0_2 (m ((c : Thread nD τ).loc main_arg1))) := by
  have h2 : W2 m ρ c (Proc.devRef .tc main_v1_0) = spread (out0_1 (m ((c : Thread nD τ).loc main_arg1))) :=
    (W2_arr m ρ c 2).trans ((arr1_2 (V1 m ρ) c).trans (congrArg spread (digitsA_at m ρ c)))
  have h3 : W2 m ρ c (Proc.devRef .tc main_v1_1) = spread (out0_2 (m ((c : Thread nD τ).loc main_arg1))) :=
    (W2_arr m ρ c 3).trans ((arr1_3 (V1 m ρ) c).trans (congrArg spread (digitsB_at m ρ c)))
  have h4 : W2 m ρ c (Proc.devRef .tc main_v1_2) = spread (out0_1 (m ((c : Thread nD τ).loc main_arg1))) :=
    (W2_arr m ρ c 4).trans ((arr1_4 (V1 m ρ) c).trans (congrArg spread (digitsA_at m ρ c)))
  have h5 : W2 m ρ c (Proc.devRef .tc main_v1_3) = spread (out0_2 (m ((c : Thread nD τ).loc main_arg1))) :=
    (W2_arr m ρ c 5).trans ((arr1_5 (V1 m ρ) c).trans (congrArg spread (digitsB_at m ρ c)))
  refine ⟨?_, ?_, ?_, ?_⟩ <;> unfold lay
  · rw [← h2]; unfold W3 hostOps2; after_reads_simp; rfl
  · rw [← h3]; unfold W3 hostOps2; after_reads_simp; rfl
  · rw [← h4]; unfold W3 hostOps2; after_reads_simp; rfl
  · rw [← h5]; unfold W3 hostOps2; after_reads_simp; rfl

end Cert.KernelIdeal.Value

end
-- ==== Proof.KernelRun.lean ====
/-
  The kernel's run. `run` is the launch of the two regions and the four reshapes, with the results kept: every weakly fair
  execution ends with each result buffer at what the boundary contents `Gen.W3` give it, the arguments unchanged and every
  counter at zero. The frame states the same launch for the arguments alone.
-/
module

public import proofs.«01_k».proof.Proof.Gen.KernelIdeal.Frame

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unfolding plain definitions in a metavariable's type
set_option backward.isDefEq.respectTransparency.types false in
/-- Every weakly fair execution of the kernel program ends with each TensorCore buffer outside a region's own scratch at
    the last boundary's contents `W3`, and with every counter at zero. -/
theorem run_boundary : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨fun c => h c, funext fun g => hz g (.inr (no_unscoped g.2))⟩)

/-- The run read at the buffers a claim speaks of: the four results at the last boundary's contents, the five arguments
    as launched. -/
theorem run : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_v3) = W3 m ρ c (Proc.devRef .tc main_v3)
      ∧ r.2.mem ((c.tc : Thread nD τ).loc main_v4) = W3 m ρ c (Proc.devRef .tc main_v4)
      ∧ r.2.mem ((c.tc : Thread nD τ).loc main_v5) = W3 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h.1 c _ (mem_uc main_v2 (by decide)), h.1 c _ (mem_uc main_v3 (by decide)),
     h.1 c _ (mem_uc main_v4 (by decide)), h.1 c _ (mem_uc main_v5 (by decide)),
     (h.1 c _ (mem_uc main_arg0 (by decide))).trans (W3_main_arg0 m ρ c),
     (h.1 c _ (mem_uc main_arg1 (by decide))).trans (W3_main_arg1 m ρ c),
     (h.1 c _ (mem_uc main_arg2 (by decide))).trans (W3_main_arg2 m ρ c),
     (h.1 c _ (mem_uc main_arg3 (by decide))).trans (W3_main_arg3 m ρ c),
     (h.1 c _ (mem_uc main_arg4 (by decide))).trans (W3_main_arg4 m ρ c)⟩) (run_boundary m ρ)

end Cert.KernelIdeal.Value

end
-- ==== Proof.First.lean ====
/-
  The position of the first set flag, found in two ways: as the least of the set positions, which is how the kernel finds it, and as
  the place of the greatest flag with ties going to the earlier place, which is the reference's argmax.
-/
module

public import proofs.«01_k».proof.Proof.RefRun
public import proofs.«01_k».proof.Proof.Spec

@[expose] public section

namespace Cert.Spec

open Idealize.ShloMosaic

/-- The least element of a row of words is below every element and is one of them, or the initial word. -/
theorem fold_min {n : ℕ} (b : BitVec 32) (g : Fin n → BitVec 32) (s : Finset (Fin n)) :
    (∀ i ∈ s, (s.fold IntOp.minsi b g).toInt ≤ (g i).toInt) ∧ (s.fold IntOp.minsi b g = b ∨ ∃ i ∈ s, s.fold IntOp.minsi b g = g i)
      ∧ (s.fold IntOp.minsi b g).toInt ≤ b.toInt := by
  classical
  induction s using Finset.induction_on with
  | empty => simp
  | insert a s ha ih =>
    rw [Finset.fold_insert ha]
    obtain ⟨h1, h2, h3⟩ := ih
    generalize s.fold IntOp.minsi b g = z at h1 h2 h3
    unfold IntOp.minsi
    simp only [BitVec.slt_iff_toInt_lt]
    split
    · rename_i h
      refine ⟨fun i hi => ?_, .inr ⟨a, Finset.mem_insert_self _ _, rfl⟩, by omega⟩
      rcases Finset.mem_insert.1 hi with rfl | hi
      · exact le_refl _
      · have := h1 i hi; omega
    · rename_i h
      refine ⟨fun i hi => ?_, ?_, h3⟩
      · rcases Finset.mem_insert.1 hi with rfl | hi
        · omega
        · exact h1 i hi
      · rcases h2 with h2 | ⟨i, hi, h2⟩
        · exact .inl h2
        · exact .inr ⟨i, Finset.mem_insert_of_mem hi, h2⟩

/-- A position below 4096, read signed. -/
theorem toInt_pos (i : ℕ) (h : i < 4097) : (BitVec.ofNat 32 i).toInt = i := by
  rw [BitVec.toInt_eq_toNat_cond, BitVec.toNat_ofNat, Nat.mod_eq_of_lt (by omega), if_pos (by omega)]

/-- What the position of the first set flag is: a set position with none before it, or 0 when no flag is set. -/
def IsFirst (f : Fin 4096 → BitVec 1) (p : BitVec 32) : Prop :=
  (∃ i : Fin 4096, f i = 1 ∧ (∀ j, f j = 1 → i ≤ j) ∧ p = BitVec.ofNat 32 i.val) ∨ ((∀ i, f i ≠ 1) ∧ p = 0#32)

/-- The least set position is the first. -/
theorem firstPos_eq (f : Fin 4096 → BitVec 1) (p : BitVec 32) (h : IsFirst f p) : firstPos f = p := by
  obtain ⟨h1, h2, h3⟩ := fold_min 2147483647#32
    (fun k : Fin 4096 => Scalar.select (f k) (BitVec.ofNat 32 k.val) 4096#32) Finset.univ
  change (∀ i ∈ Finset.univ, (leastPos f).toInt ≤ _) at h1
  change leastPos f = _ ∨ ∃ i ∈ Finset.univ, leastPos f = _ at h2
  have e4096 : (4096#32 : BitVec 32).toInt = 4096 := by decide
  have eMax : (2147483647#32 : BitVec 32).toInt = 2147483647 := by decide
  rcases h with ⟨i, hi, hmin, rfl⟩ | ⟨hn, rfl⟩
  · have hle := h1 i (Finset.mem_univ _)
    simp only [Scalar.select, hi, if_true] at hle
    have ti := toInt_pos i.val (by have := i.isLt; omega)
    have e : leastPos f = BitVec.ofNat 32 i.val := by
      apply BitVec.eq_of_toInt_eq
      have : (BitVec.ofNat 32 i.val).toInt ≤ (leastPos f).toInt := by
        rcases h2 with h2 | ⟨j, -, h2⟩
        · rw [h2, eMax, ti]; have := i.isLt; omega
        · rw [h2, ti]
          simp only [Scalar.select]
          split
          · rename_i hj
            have := hmin j hj
            rw [toInt_pos j.val (by have := j.isLt; omega)]
            exact_mod_cast this
          · rw [e4096]; have := i.isLt; omega
      omega
    unfold firstPos
    rw [e]
    have : IntOp.cmpi .slt (BitVec.ofNat 32 i.val) 4096#32 = 1 := by
      simp only [IntOp.cmpi, BitVec.slt_eq_decide, ti, e4096]
      have := i.isLt
      rw [decide_eq_true (by omega)]; rfl
    rw [this]; rfl
  · have e : leastPos f = 4096#32 := by
      rcases h2 with h2 | ⟨j, -, h2⟩
      · have := h1 0 (Finset.mem_univ _)
        simp only [Scalar.select, hn 0, if_false] at this
        rw [h2, eMax, e4096] at this
        omega
      · rw [h2]; simp only [Scalar.select, hn j, if_false]
    unfold firstPos
    rw [e]; rfl

/-- The order the argmax keeps: a greater value, or as great a value at no later a place. -/
def Under (q r : BitVec 32 × BitVec 32) : Prop := q.1.toInt < r.1.toInt ∨ (q.1.toInt = r.1.toInt ∧ r.2.toInt ≤ q.2.toInt)

theorem Under.rfl' (q : BitVec 32 × BitVec 32) : Under q q := .inr ⟨rfl, le_refl _⟩

theorem Under.trans' {q r s : BitVec 32 × BitVec 32} (h : Under q r) (h' : Under r s) : Under q s := by
  unfold Under at *; omega

/-- One step of the argmax keeps one of its two pairs, and both are under it. -/
theorem argmax_step (a b : BitVec 32 × BitVec 32) :
    (ReferenceIdeal.reducer_argmax_i32_i32 a b = a ∨ ReferenceIdeal.reducer_argmax_i32_i32 a b = b)
      ∧ Under a (ReferenceIdeal.reducer_argmax_i32_i32 a b) ∧ Under b (ReferenceIdeal.reducer_argmax_i32_i32 a b) := by
  obtain ⟨a1, a2⟩ := a
  obtain ⟨b1, b2⟩ := b
  have key : ReferenceIdeal.reducer_argmax_i32_i32 (a1, a2) (b1, b2)
      = if b1.toInt < a1.toInt ∨ (a1.toInt = b1.toInt ∧ a2.toInt < b2.toInt) then (a1, a2) else (b1, b2) := by
    unfold ReferenceIdeal.reducer_argmax_i32_i32
    have hinj : (a1 = b1) ↔ a1.toInt = b1.toInt := ⟨fun h => h ▸ rfl, BitVec.eq_of_toInt_eq⟩
    by_cases h1 : b1.toInt < a1.toInt
    · have hne : ¬ a1.toInt = b1.toInt := by omega
      have hb : ¬ a1 = b1 := fun h => hne (hinj.1 h)
      have hb' : (a1 == b1) = false := by simpa using hb
      simp [Scalar.select, IntOp.ori, IntOp.andi, IntOp.cmpi, BitVec.slt_eq_decide, h1, hb']
    · by_cases h2 : a1.toInt = b1.toInt
      · obtain rfl := hinj.2 h2
        by_cases h3 : a2.toInt < b2.toInt
        · simp [Scalar.select, IntOp.ori, IntOp.andi, IntOp.cmpi, BitVec.slt_eq_decide, h3]
        · simp [Scalar.select, IntOp.ori, IntOp.andi, IntOp.cmpi, BitVec.slt_eq_decide, h3]
      · have hb : ¬ a1 = b1 := fun h => h2 (hinj.1 h)
        have hb' : (a1 == b1) = false := by simpa using hb
        simp [Scalar.select, IntOp.ori, IntOp.andi, IntOp.cmpi, BitVec.slt_eq_decide, h1, h2, hb']
  rw [key]
  split
  · rename_i h
    exact ⟨.inl rfl, Under.rfl' _, by unfold Under; simp only; omega⟩
  · rename_i h
    exact ⟨.inr rfl, by unfold Under; simp only; omega, Under.rfl' _⟩

/-- The argmax over a list keeps one of its pairs, and all are under it. -/
theorem argmax_foldl (L : List (BitVec 32 × BitVec 32)) : ∀ a : BitVec 32 × BitVec 32,
    L.foldl ReferenceIdeal.reducer_argmax_i32_i32 a ∈ a :: L
      ∧ ∀ q ∈ a :: L, Under q (L.foldl ReferenceIdeal.reducer_argmax_i32_i32 a) := by
  induction L with
  | nil => intro a; exact ⟨by simp, by simpa using Under.rfl' a⟩
  | cons b L ih =>
    intro a
    obtain ⟨h1, h2⟩ := ih (ReferenceIdeal.reducer_argmax_i32_i32 a b)
    obtain ⟨s1, s2, s3⟩ := argmax_step a b
    rw [List.foldl_cons]
    refine ⟨?_, fun q hq => ?_⟩
    · rcases List.mem_cons.1 h1 with h | h
      · rw [h]; rcases s1 with s | s <;> rw [s] <;> simp
      · simp [h]
    · have hr := h2 _ (List.mem_cons_self ..)
      rcases List.mem_cons.1 hq with rfl | hq
      · exact s2.trans' hr
      rcases List.mem_cons.1 hq with rfl | hq
      · exact s3.trans' hr
      · exact h2 q (List.mem_cons_of_mem _ hq)

/-- The argmax of a list that holds each position's flag with its place is the place of the first set flag. -/
theorem argmax_first (f : Fin 4096 → BitVec 1) (L : List (BitVec 32 × BitVec 32))
    (hL : ∀ q, q ∈ L ↔ ∃ k : Fin 4096, q = ((f k).setWidth 32, BitVec.ofNat 32 k.val)) :
    IsFirst f (L.foldl ReferenceIdeal.reducer_argmax_i32_i32 (2147483648#32, 0#32)).2 := by
  obtain ⟨h1, h2⟩ := argmax_foldl L (2147483648#32, 0#32)
  set r := L.foldl ReferenceIdeal.reducer_argmax_i32_i32 (2147483648#32, 0#32)
  have eMin : (2147483648#32 : BitVec 32).toInt = -2147483648 := by decide
  have bit : ∀ k, (f k = 1 ∧ ((f k).setWidth 32).toInt = 1) ∨ (f k ≠ 1 ∧ ((f k).setWidth 32).toInt = 0) := by
    intro k
    rcases (by decide : ∀ b : BitVec 1, b = 0 ∨ b = 1) (f k) with h | h <;> rw [h] <;> decide
  have under : ∀ k : Fin 4096, Under ((f k).setWidth 32, BitVec.ofNat 32 k.val) r := fun k =>
    h2 _ (List.mem_cons_of_mem _ ((hL _).2 ⟨k, rfl⟩))
  obtain ⟨k, hk⟩ : ∃ k : Fin 4096, r = ((f k).setWidth 32, BitVec.ofNat 32 k.val) := by
    rcases List.mem_cons.1 h1 with h | h
    · exfalso
      have := under 0
      rw [h] at this
      unfold Under at this
      simp only [eMin] at this
      rcases bit 0 with ⟨-, e⟩ | ⟨-, e⟩ <;> rw [e] at this <;> omega
    · exact (hL _).1 h
  rw [hk] at under ⊢
  have tk := toInt_pos k.val (by have := k.isLt; omega)
  unfold Under at under
  simp only [tk] at under
  rcases bit k with ⟨e1, e2⟩ | ⟨e1, e2⟩
  · refine .inl ⟨k, e1, fun j hj => ?_, rfl⟩
    have := under j
    rcases bit j with ⟨-, e⟩ | ⟨e', -⟩
    · rw [e, e2, toInt_pos j.val (by have := j.isLt; omega)] at this
      have : (k.val : ℤ) ≤ j.val := by omega
      exact_mod_cast this
    · exact absurd hj e'
  · refine .inr ⟨fun j hj => ?_, ?_⟩
    · have := under j
      rcases bit j with ⟨-, e⟩ | ⟨e', -⟩
      · rw [e, e2] at this; omega
      · exact e' hj
    · have h0 := under 0
      rw [e2, toInt_pos _ (by decide)] at h0
      have : k.val = 0 := by
        rcases bit 0 with ⟨-, e⟩ | ⟨-, e⟩ <;> rw [e] at h0 <;> simp at h0 <;> omega
      rw [this]

end Cert.Spec
-- ==== Proof.RefValue.lean ====
/-
  What the reference computes. At tables that hold what the kernel assumes of them, an id's digit and operator flag are the kernel's;
  the argmax is the position of the first operator; the two reductions are where the numbers start and end; and the clipped read of a
  row is the row at a held position. So the two results hold, at every position of a row, the row's ten digits.
-/
module

public import proofs.«01_k».proof.Proof.First
public import Idealize.ShloMosaic.Lib.ValueIdxCore
public import Idealize.ShloMosaic.Lib.ReduceAll

@[expose] public section

noncomputable section

namespace Cert.ReferenceIdeal.Value

open Cert.ReferenceIdeal Cert.ReferenceIdeal.Gen Idealize.ShloMosaic

/-- The digit table the kernel assumes: an id's last decimal digit below 1000, and -1 from there on. -/
def DigitTable (td : IVec S50000 32) : Prop :=
  ∀ n : S50000.Idx, td n = if (n 0).val < 1000 then BitVec.ofNat 32 ((n 0).val % 10) else 4294967295#32

/-- The operator table the kernel assumes: the ids from 1000 to 1004. -/
def OperTable (tp : IVec S50000 1) : Prop :=
  ∀ n : S50000.Idx, tp n = BitVec.ofBool (decide (1000 ≤ (n 0).val ∧ (n 0).val < 1005))

/-- A row of a table of words by rows and positions. -/
def line (d : IVec S16x4096 32) (b : Fin 16) : Spec.Row := fun k => d (ix2 b k)

/-- The held ids. -/
theorem refIds_apply (x : IVec S16x4096 32) (y : S16x4096.Idx) : refIds x y = Spec.idOf (x y) := by
  pointwise [refIds]
  rfl

/-- A held id is not counted from the table's end. -/
theorem refRows_apply (x : IVec S16x4096 32) (y : S16x4096.Idx) : refRows (refIds x) (ValueIdx.takeIdx y) = Spec.idOf (x y) := by
  obtain ⟨h1, h2⟩ := Spec.idOf_bounds (x y)
  have hy : ∀ i : IVec S16x4096 32, refRows i (ValueIdx.takeIdx y)
      = Scalar.select (IntOp.cmpi .slt (i y) 0#32) (IntOp.addi (i y) 50000#32) (i y) := by
    intro i
    have ht : ValueIdx.takeIdx y = ix3 (y 0) (y 1) (0 : Fin 1) := by
      funext a; match a with | ⟨0, _⟩ => rfl | ⟨1, _⟩ => rfl | ⟨2, _⟩ => rfl
    have hy : y = ix2 (y 0) (y 1) := by
      funext a; match a with | ⟨0, _⟩ => rfl | ⟨1, _⟩ => rfl
    rw [ht, hy]
    generalize y 0 = b
    generalize y 1 = k
    pointwise [refRows]
  rw [hy, refIds_apply]
  have : IntOp.cmpi .slt (Spec.idOf (x y)) 0#32 = 0#1 := by
    simp only [IntOp.cmpi, BitVec.slt_eq_decide]
    rw [decide_eq_false (by simpa using h1)]; rfl
  rw [this]; rfl

/-- A table read at the ids. -/
theorem table_apply {w : ℕ} (t : IVec S50000 w) (x : IVec S16x4096 32) (y : S16x4096.Idx) :
    ∃ n : S50000.Idx, (n 0).val = (Spec.idOf (x y)).toNat
      ∧ Host.gather gather_S50000_S16x4096x1_S16x4096_n_0_n_n_0_2_1 t (refRows (refIds x)) y = t n := by
  refine ⟨_, ?_, ValueIdx.gather_take_apply (by decide) gather_S50000_S16x4096x1_S16x4096_n_0_n_n_0_2_1_wf t (refRows (refIds x)) y⟩
  obtain ⟨h1, h2⟩ := Spec.idOf_lt (x y)
  show min (refRows (refIds x) (ValueIdx.takeIdx y)).toInt.toNat (50000 - 1) = _
  rw [refRows_apply, h2]
  omega

/-- The reference's digits are the kernel's. -/
theorem refDigit_apply (td : IVec S50000 32) (htd : DigitTable td) (x : IVec S16x4096 32) (y : S16x4096.Idx) :
    refDigit td (refIds x) y = Spec.digit (x y) := by
  obtain ⟨n, hn, e⟩ := table_apply td x y
  rw [Spec.digit_eq, ← hn]
  exact e.trans (htd n)

/-- The reference's operator flags are the kernel's, as words. -/
theorem refIsOp_apply (tp : IVec S50000 1) (htp : OperTable tp) (x : IVec S16x4096 32) (y : S16x4096.Idx) :
    refIsOp tp (refIds x) y = (Spec.oper (x y)).setWidth 32 := by
  obtain ⟨n, hn, e⟩ := table_apply tp x y
  rw [Spec.oper_eq, ← hn, ← htp n, ← e]
  rfl

/-- The argmax of a row of flags is the position of its first set flag. -/
theorem refOp_apply (w : IVec S16x4096 32) (f : Fin 4096 → BitVec 1) (b : Fin 16)
    (hw : ∀ k, w (ix2 b k) = (f k).setWidth 32) : refOp w (ix1 b) = Spec.firstPos f := by
  unfold refOp
  rw [Host.reduce2_eq_foldl_fiber]
  refine (Spec.firstPos_eq f _ (Spec.argmax_first f _ fun q => ?_)).symm
  unfold Host.argReduceFiber
  simp only [List.mem_map, List.mem_filter, List.mem_finRange, true_and, decide_eq_true_eq]
  constructor
  · rintro ⟨n, hn, rfl⟩
    obtain ⟨k, hk⟩ := (Shape.ReducesTo.fiber_r2_a1 reducesTo_S16x4096_S16_d1 (ix1 b) _).1 hn
    refine ⟨k, ?_⟩
    rw [← hk, ← hw k]
    rfl
  · rintro ⟨k, rfl⟩
    refine ⟨S16x4096.rowMajor (ix2 b k), ?_, ?_⟩
    · rw [Equiv.symm_apply_apply]
      exact (Shape.ReducesTo.fiber_r2_a1 reducesTo_S16x4096_S16_d1 (ix1 b) _).2 ⟨k, rfl⟩
    · rw [Equiv.symm_apply_apply, hw k]
      rfl

/-- A position without a digit is one whose digit is negative. -/
theorem no_digit (w : BitVec 32) : ~~~(IntOp.cmpi .sge w 0#32) = IntOp.cmpi .slt w 0#32 := by
  simp only [IntOp.cmpi, BitVec.slt_eq_decide, BitVec.sle_eq_decide]
  by_cases h : (0#32 : BitVec 32).toInt ≤ w.toInt
  · rw [decide_eq_true h, decide_eq_false (by omega)]; rfl
  · rw [decide_eq_false h, decide_eq_true (by omega)]; rfl

/-- Where the first number starts. -/
theorem refStart_apply (d : IVec S16x4096 32) (p : IVec S16 32) (b : Fin 16) :
    refStart (refIsDigit d) p (ix1 b) = Spec.start (line d b) (p (ix1 b)) := by
  pointwise [refStart, refIsDigit, refPos, refWide]
  simp only [no_digit]
  rfl

/-- Where the second number ends. -/
theorem refEnd_apply (d : IVec S16x4096 32) (p : IVec S16 32) (b : Fin 16) :
    refEnd (refIsDigit d) p (ix1 b) = Spec.stop (line d b) (p (ix1 b)) := by
  pointwise [refEnd, refIsDigit, refPos, refWide]
  simp only [no_digit]
  rfl

/-- The positions held between 0 and 4095. -/
theorem refClip_apply (q : IVec S16x10 32) (y : S16x10.Idx) : refClip q y = Spec.clip (q y) := by
  pointwise [refClip]
  rfl

/-- A held position is not counted from the row's end. -/
theorem refAt_apply (q : IVec S16x10 32) (b : Fin 16) (k : Fin 10) (z : Fin 1) :
    refAt (refClip q) (ix3 b k z) = Spec.clip (q (ix2 b k)) := by
  obtain ⟨h1, h2⟩ := Spec.clip_bounds (q (ix2 b k))
  have hy : refAt (refClip q) (ix3 b k z) = Scalar.select (IntOp.cmpi .slt (refClip q (ix2 b k)) 0#32)
      (IntOp.addi (refClip q (ix2 b k)) 4096#32) (refClip q (ix2 b k)) := by
    unfold refAt
    generalize refClip q = i
    pointwise []
  rw [hy, refClip_apply]
  have : IntOp.cmpi .slt (Spec.clip (q (ix2 b k))) 0#32 = 0#1 := by
    simp only [IntOp.cmpi, BitVec.slt_eq_decide]
    rw [decide_eq_false (by simpa using h1)]; rfl
  rw [this]; rfl

/-- A held position lies in the row. -/
theorem refIn_apply (q : IVec S16x10 32) (y : S16x10.Idx) : refIn (refAt (refClip q)) y = 1#1 := by
  unfold refIn
  refine Host.reduce_andi_one _ _ _ _ _ rfl fun i => ?_
  obtain ⟨b, k, z, rfl⟩ : ∃ b k z, i = ix3 b k z :=
    ⟨i 0, i 1, i 2, by funext a; match a with | ⟨0, _⟩ => rfl | ⟨1, _⟩ => rfl | ⟨2, _⟩ => rfl⟩
  have h := refAt_apply q b k z
  obtain ⟨h1, h2⟩ := Spec.clip_bounds (q (ix2 b k))
  generalize refAt (refClip q) = r at h ⊢
  pointwise []
  rw [h]
  simp only [IntOp.andi, IntOp.cmpi, BitVec.sle_eq_decide]
  rw [decide_eq_true (by simpa using h1), decide_eq_true (by simpa using h2)]
  rfl

/-- A row read at positions that lie in it. -/
theorem gather_row (d : IVec S16x4096 32) (r : IVec S16x10x1 32) (b : Fin 16) (k : Fin 10) (n : ℕ) (hn : n < 4096)
    (h : (r (ix3 b k 0)).toInt = n) :
    Host.gather gather_S16x4096_S16x10x1_S16x10_n_1_0_0_1_2_11 d r (ix2 b k) = d (ix2 b ⟨n, hn⟩) := by
  set g := gather_S16x4096_S16x10x1_S16x10_n_1_0_0_1_2_11 with hg
  unfold Host.gather
  refine congrArg d (funext fun a => Fin.ext ?_)
  show g.start (ix2 b k) r a + g.batchCoord (ix2 b k) a + g.offCoord (ix2 b k) a = _
  match a with
  | ⟨0, _⟩ =>
    show g.start (ix2 b k) r (0 : Fin 2) + g.batchCoord (ix2 b k) (0 : Fin 2) + g.offCoord (ix2 b k) (0 : Fin 2) = b.val
    rw [GatherDims.start_batching g _ _ _ (List.mem_singleton.mpr rfl),
      GatherDims.offCoord_eq_zero g _ _ (fun m => ((GatherDims.mem_sKept _ _).mp m).2 (List.mem_singleton.mpr rfl)), Nat.zero_add, Nat.add_zero]
    unfold GatherDims.batchCoord
    rw [dif_pos (show (0 : Fin 2) ∈ g.operandBatchingDims from List.mem_singleton.mpr rfl)]
    rfl
  | ⟨1, _⟩ =>
    show g.start (ix2 b k) r (1 : Fin 2) + g.batchCoord (ix2 b k) (1 : Fin 2) + g.offCoord (ix2 b k) (1 : Fin 2) = n
    have hmem : (1 : Fin 2) ∈ g.startIndexMap := List.mem_singleton.mpr rfl
    have hat : g.siIdx (ix2 b k) ⟨List.idxOf (1 : Fin 2) g.startIndexMap, List.idxOf_lt_length_iff.2 hmem⟩ = ix3 b k 0 :=
      funext fun c => Fin.ext (match c with | ⟨0, _⟩ => rfl | ⟨1, _⟩ => rfl | ⟨2, _⟩ => rfl)
    rw [GatherDims.batchCoord_eq_zero g _ _ (fun m => by simp [hg, gather_S16x4096_S16x10x1_S16x10_n_1_0_0_1_2_11] at m),
      GatherDims.offCoord_eq_zero g _ _ (fun m => ((GatherDims.mem_sKept _ _).mp m).1 (List.mem_singleton.mpr rfl))]
    show g.start (ix2 b k) r (1 : Fin 2) = n
    unfold GatherDims.start
    rw [dif_pos hmem]
    show min (r (g.siIdx (ix2 b k) ⟨List.idxOf (1 : Fin 2) g.startIndexMap, List.idxOf_lt_length_iff.2 hmem⟩)).toInt.toNat (4096 - 1) = n
    rw [hat, h]
    omega

/-- The digits at held positions. -/
theorem refTake_apply (d : IVec S16x4096 32) (q : IVec S16x10 32) (b : Fin 16) (k : Fin 10) :
    refTake d (refClip q) (ix2 b k) = Spec.at' (line d b) (q (ix2 b k)) := by
  have h1 := Spec.clip_bounds (q (ix2 b k))
  have h2 := Spec.clip_lt (q (ix2 b k))
  have h3 : (Spec.clip (q (ix2 b k))).toInt = (Spec.clip (q (ix2 b k))).toNat := by
    rw [BitVec.toInt_eq_toNat_cond, if_pos (by omega)]
  have hg := gather_row d (refAt (refClip q)) b k _ h2 (by rw [refAt_apply]; exact h3)
  show Scalar.select (refIn (refAt (refClip q)) (ix2 b k)) (Host.gather _ d (refAt (refClip q)) (ix2 b k)) _ = _
  rw [refIn_apply, hg]
  rfl

/-- The first number's digits. -/
theorem refDigitsA_apply (d : IVec S16x4096 32) (p : IVec S16 32) (b : Fin 16) (k : Fin 10) :
    refDigitsA d p (ix2 b k) = Spec.takeA (line d b) (p (ix1 b)) (BitVec.ofNat 32 k.val) := by
  have hp : refPosA p (ix2 b k) = Spec.placeA (p (ix1 b)) (BitVec.ofNat 32 k.val) := by
    pointwise [refPosA, refOff]
    rfl
  have hs : refTen (refStart (refIsDigit d) p) (ix2 b k) = Spec.start (line d b) (p (ix1 b)) := by
    rw [← refStart_apply]
    generalize refStart (refIsDigit d) p = s
    pointwise [refTen]
  show Scalar.select (IntOp.cmpi .sge (refPosA p (ix2 b k)) (refTen (refStart (refIsDigit d) p) (ix2 b k)))
    (refTake d (refClip (refPosA p)) (ix2 b k)) 0#32 = _
  rw [refTake_apply, hp, hs]
  rfl

/-- The second number's digits. -/
theorem refDigitsB_apply (d : IVec S16x4096 32) (p : IVec S16 32) (b : Fin 16) (k : Fin 10) :
    refDigitsB d p (ix2 b k) = Spec.takeB (line d b) (p (ix1 b)) (BitVec.ofNat 32 k.val) := by
  have hp : refPosB (refEnd (refIsDigit d) p) (ix2 b k) = Spec.placeB (line d b) (p (ix1 b)) (BitVec.ofNat 32 k.val) := by
    unfold Spec.placeB
    rw [← refEnd_apply]
    generalize refEnd (refIsDigit d) p = e
    pointwise [refPosB, refTen, refOff]
  have hs : refTen p (ix2 b k) = p (ix1 b) := by
    pointwise [refTen]
  show Scalar.select (IntOp.cmpi .sgt (refPosB (refEnd (refIsDigit d) p) (ix2 b k)) (refTen p (ix2 b k)))
    (refTake d (refClip (refPosB (refEnd (refIsDigit d) p))) (ix2 b k)) 0#32 = _
  rw [refTake_apply, hp, hs]
  rfl

/-- A row's digits, by the kernel's rule. -/
theorem line_digit (td : IVec S50000 32) (htd : DigitTable td) (x : IVec S16x4096 32) (b : Fin 16) :
    line (refDigit td (refIds x)) b = fun i => Spec.digit (line x b i) :=
  funext fun i => refDigit_apply td htd x (ix2 b i)

/-- The position of a row's first operator. -/
theorem opPos_apply (tp : IVec S50000 1) (htp : OperTable tp) (x : IVec S16x4096 32) (b : Fin 16) :
    refOp (refIsOp tp (refIds x)) (ix1 b) = Spec.opPos (line x b) :=
  refOp_apply _ (fun k => Spec.oper (line x b k)) b fun k => refIsOp_apply tp htp x (ix2 b k)

/-- The first result: at every position of a row, the digits of the number before its first operator. -/
theorem resA_apply (x : IVec S16x4096 32) (td : IVec S50000 32) (tp : IVec S50000 1) (htd : DigitTable td) (htp : OperTable tp)
    (b : Fin 16) (s : Fin 4096) (k : Fin 10) :
    resA (F := Ideal) x td tp (ix3 b s k) = FloatOps.sitofp (F := Ideal) .f32 (Spec.digitA (line x b) (BitVec.ofNat 32 k.val)) := by
  have h := refDigitsA_apply (refDigit td (refIds x)) (refOp (refIsOp tp (refIds x))) b k
  rw [line_digit td htd, opPos_apply tp htp] at h
  unfold resA Spec.digitA
  rw [← h]
  generalize refDigitsA _ _ = v
  pointwise [refSpread]

/-- The second result: at every position of a row, the digits of the number after its first operator. -/
theorem resB_apply (x : IVec S16x4096 32) (td : IVec S50000 32) (tp : IVec S50000 1) (htd : DigitTable td) (htp : OperTable tp)
    (b : Fin 16) (s : Fin 4096) (k : Fin 10) :
    resB (F := Ideal) x td tp (ix3 b s k) = FloatOps.sitofp (F := Ideal) .f32 (Spec.digitB (line x b) (BitVec.ofNat 32 k.val)) := by
  have h := refDigitsB_apply (refDigit td (refIds x)) (refOp (refIsOp tp (refIds x))) b k
  rw [line_digit td htd, opPos_apply tp htp] at h
  unfold resB Spec.digitB
  rw [← h]
  generalize refDigitsB _ _ = v
  pointwise [refSpread]

end Cert.ReferenceIdeal.Value

end
-- ==== Proof.Equation.lean ====
/-
  The equation: position `s`, digit `k` of row `b` is, in the kernel's arrays and in the reference's, digit `k` of the number before
  (first and third result) or behind (second and fourth) that row's first operator.
-/
module

public import proofs.«01_k».proof.Defs
public import proofs.«01_k».proof.Proof.Arrays
public import proofs.«01_k».proof.Proof.KernelRun
public import proofs.«01_k».proof.Proof.RefRun
public import proofs.«01_k».proof.Proof.RefValue
public import proofs.«01_k».proof.Proof.Tables

@[expose] public section

noncomputable section

namespace Cert.Proof

open Idealize.ShloMosaic Idealize.SL.Sem

/-- The digit that the lane of position `s`, digit `k` holds. -/
theorem lane_digit (s k : ℕ) (hk : k < 10) : (s * 10 + k) % 640 % 10 = k := by omega

/-- The kernel's first array is the reference's first result. -/
theorem digits_before (x : IVec Cert.ReferenceIdeal.S16x4096 32) (td : IVec Cert.ReferenceIdeal.S50000 32)
    (tp : IVec Cert.ReferenceIdeal.S50000 1) (htd : Cert.ReferenceIdeal.Value.DigitTable td) (htp : Cert.ReferenceIdeal.Value.OperTable tp) :
    Cert.KernelIdeal.Value.lay (Cert.KernelIdeal.Gen.out0_1 (F := Ideal) x) = Cert.ReferenceIdeal.Value.resA (F := Ideal) x td tp := by
  funext i
  obtain ⟨b, s, k, rfl⟩ : ∃ (b : Fin 16) (s : Fin 4096) (k : Fin 10), i = ix3 b s k :=
    ⟨i 0, i 1, i 2, by funext a; match a with | ⟨0, _⟩ => rfl | ⟨1, _⟩ => rfl | ⟨2, _⟩ => rfl⟩
  refine (Cert.KernelIdeal.Value.lay_apply _ b s k).trans ((Cert.KernelIdeal.Value.out0_1_apply x b _).trans ?_)
  refine Eq.trans ?_ (Cert.ReferenceIdeal.Value.resA_apply x td tp htd htp b s k).symm
  dsimp only
  rw [lane_digit _ _ k.isLt]
  rfl

/-- The kernel's second array is the reference's second result. -/
theorem digits_behind (x : IVec Cert.ReferenceIdeal.S16x4096 32) (td : IVec Cert.ReferenceIdeal.S50000 32)
    (tp : IVec Cert.ReferenceIdeal.S50000 1) (htd : Cert.ReferenceIdeal.Value.DigitTable td) (htp : Cert.ReferenceIdeal.Value.OperTable tp) :
    Cert.KernelIdeal.Value.lay (Cert.KernelIdeal.Gen.out0_2 (F := Ideal) x) = Cert.ReferenceIdeal.Value.resB (F := Ideal) x td tp := by
  funext i
  obtain ⟨b, s, k, rfl⟩ : ∃ (b : Fin 16) (s : Fin 4096) (k : Fin 10), i = ix3 b s k :=
    ⟨i 0, i 1, i 2, by funext a; match a with | ⟨0, _⟩ => rfl | ⟨1, _⟩ => rfl | ⟨2, _⟩ => rfl⟩
  refine (Cert.KernelIdeal.Value.lay_apply _ b s k).trans ((Cert.KernelIdeal.Value.out0_2_apply x b _).trans ?_)
  refine Eq.trans ?_ (Cert.ReferenceIdeal.Value.resB_apply x td tp htd htp b s k).symm
  dsimp only
  rw [lane_digit _ _ k.isLt]
  rfl

/-- The kernel's four results are the reference's, at exact numbers and on the frozen tables. -/
theorem algebraic : algebraic_KernelIdeal_ReferenceIdeal_pre_frozen_tables (hKernelIdeal := Cert.KernelIdeal.Gen.facts)
    (hReferenceIdeal := Cert.ReferenceIdeal.Gen.facts) (hPre_frozen_tables := Cert.Pre_frozen_tables.facts) := by
  intro m g m' g' hpre hagree
  have hA : ∀ c : Dev Cert.KernelIdeal.nD, Cert.KernelIdeal.Gen.W3 m g c (Proc.devRef .tc Cert.KernelIdeal.main_v2)
      = Cert.ReferenceIdeal.Value.resA (F := Ideal) (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) := by
    intro c
    obtain ⟨htd, htp⟩ := Cert.Pre_frozen_tables.tables _ _ _ _ _ (hpre c)
    obtain ⟨-, e1, -, e3, e4⟩ := hagree c
    rw [e1, e3, e4]
    exact (Cert.KernelIdeal.Value.results m g c).1.trans (digits_before _ _ _ htd htp)
  have hB : ∀ c : Dev Cert.KernelIdeal.nD, Cert.KernelIdeal.Gen.W3 m g c (Proc.devRef .tc Cert.KernelIdeal.main_v3)
      = Cert.ReferenceIdeal.Value.resB (F := Ideal) (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) := by
    intro c
    obtain ⟨htd, htp⟩ := Cert.Pre_frozen_tables.tables _ _ _ _ _ (hpre c)
    obtain ⟨-, e1, -, e3, e4⟩ := hagree c
    rw [e1, e3, e4]
    exact (Cert.KernelIdeal.Value.results m g c).2.1.trans (digits_behind _ _ _ htd htp)
  have hA' : ∀ c : Dev Cert.KernelIdeal.nD, Cert.KernelIdeal.Gen.W3 m g c (Proc.devRef .tc Cert.KernelIdeal.main_v4)
      = Cert.KernelIdeal.Gen.W3 m g c (Proc.devRef .tc Cert.KernelIdeal.main_v2) := fun c =>
    (Cert.KernelIdeal.Value.results m g c).2.2.1.trans (Cert.KernelIdeal.Value.results m g c).1.symm
  have hB' : ∀ c : Dev Cert.KernelIdeal.nD, Cert.KernelIdeal.Gen.W3 m g c (Proc.devRef .tc Cert.KernelIdeal.main_v5)
      = Cert.KernelIdeal.Gen.W3 m g c (Proc.devRef .tc Cert.KernelIdeal.main_v3) := fun c =>
    (Cert.KernelIdeal.Value.results m g c).2.2.2.trans (Cert.KernelIdeal.Value.results m g c).2.1.symm
  refine ⟨fun c => Cert.KernelIdeal.Gen.W3 m g c (Proc.devRef .tc Cert.KernelIdeal.main_v2),
    fun c => Cert.KernelIdeal.Gen.W3 m g c (Proc.devRef .tc Cert.KernelIdeal.main_v3),
    fun c => Cert.KernelIdeal.Gen.W3 m g c (Proc.devRef .tc Cert.KernelIdeal.main_v4),
    fun c => Cert.KernelIdeal.Gen.W3 m g c (Proc.devRef .tc Cert.KernelIdeal.main_v5), Cert.KernelIdeal.Value.run m g, ?_⟩
  refine (θ_run Cert.ReferenceIdeal.defs _ _).mono (fun r h c => ?_) (Cert.ReferenceIdeal.Value.run (F := Ideal) m' g')
  obtain ⟨ha, hb, hargs⟩ := h.1 c
  exact ⟨ha.trans (hA c).symm, hb.trans (hB c).symm, ha.trans ((hA' c).trans (hA c)).symm, hb.trans ((hB' c).trans (hB c)).symm, hargs⟩

end Cert.Proof

end
-- ==== Proof.lean ====
/-
  The claim, put together: the frames of the two programs (Proof/Frames.lean) and the equation of their results
  (Proof/Equation.lean).
-/
module

public import proofs.«01_k».proof.Defs
public import proofs.«01_k».proof.Proof.Frames
public import proofs.«01_k».proof.Proof.Equation

@[expose] public section

noncomputable section

namespace Cert.Proof

open Idealize.ShloMosaic Idealize.SL.Sem

/-- Everything that the statement claims. -/
theorem claim : Cert.Claim := ⟨Cert.Kernel.Gen.facts, Cert.KernelIdeal.Gen.facts, Cert.ReferenceIdeal.Gen.facts,
  Cert.Pre_frozen_tables.facts, frame_kernel, frame_ideal, frame_ideal_tables, frame_reference, frame_reference_tables, trivial, algebraic⟩

end Cert.Proof

end
